-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_cnt_positive [hPre_cnt_positive : Cert.Pre_cnt_positive.Facts] (m : (ℓ : Loc Cert.KernelIdeal.nD Cert.KernelIdeal.τ Cert.KernelIdeal.sig) → Buf (Elt Ideal) ℓ) : Prop :=
  ∀ c : Dev Cert.KernelIdeal.nD,
    (Cert.Pre_cnt_positive.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_cnt_positive [hPre_cnt_positive : Cert.Pre_cnt_positive.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_cnt_positive.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_cnt_positive [hKernelIdeal : Cert.KernelIdeal.Facts] [hPre_cnt_positive : Cert.Pre_cnt_positive.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_cnt_positive m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_cnt_positive [hReferenceIdeal : Cert.ReferenceIdeal.Facts] [hPre_cnt_positive : Cert.Pre_cnt_positive.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_cnt_positive m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_cnt_positive [hKernelIdeal : Cert.KernelIdeal.Facts] [hReferenceIdeal : Cert.ReferenceIdeal.Facts] [hPre_cnt_positive : Cert.Pre_cnt_positive.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_cnt_positive m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v27_0)) (v1 : (c : Dev Cert.KernelIdeal.nD) → Buf (Elt Ideal) ((c.tc : Thread Cert.KernelIdeal.nD Cert.KernelIdeal.τ).loc Cert.KernelIdeal.main_v27_1)) (v2 : (c : Dev Cert.KernelIdeal.nD) → Buf (Elt Ideal) ((c.tc : Thread Cert.KernelIdeal.nD Cert.KernelIdeal.τ).loc Cert.KernelIdeal.main_v27_2)) (v3 : (c : Dev Cert.KernelIdeal.nD) → Buf (Elt Ideal) ((c.tc : Thread Cert.KernelIdeal.nD Cert.KernelIdeal.τ).loc Cert.KernelIdeal.main_v27_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27_0) = v0 c
          ∧ r.2.mem ((c.tc : Thread Cert.KernelIdeal.nD Cert.KernelIdeal.τ).loc Cert.KernelIdeal.main_v27_1) = v1 c
          ∧ r.2.mem ((c.tc : Thread Cert.KernelIdeal.nD Cert.KernelIdeal.τ).loc Cert.KernelIdeal.main_v27_2) = v2 c
          ∧ r.2.mem ((c.tc : Thread Cert.KernelIdeal.nD Cert.KernelIdeal.τ).loc Cert.KernelIdeal.main_v27_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_cnt_positive : Cert.Pre_cnt_positive.Facts),
    quiescent_Kernel (hKernel := hKernel)
    ∧ quiescent_KernelIdeal (hKernelIdeal := hKernelIdeal)
    ∧ quiescent_KernelIdeal_pre_cnt_positive (hKernelIdeal := hKernelIdeal) (hPre_cnt_positive := hPre_cnt_positive)
    ∧ quiescent_ReferenceIdeal (hReferenceIdeal := hReferenceIdeal)
    ∧ quiescent_ReferenceIdeal_pre_cnt_positive (hReferenceIdeal := hReferenceIdeal) (hPre_cnt_positive := hPre_cnt_positive)
    ∧ preserves_Kernel_KernelIdeal
    ∧ algebraic_KernelIdeal_ReferenceIdeal_pre_cnt_positive (hKernelIdeal := hKernelIdeal) (hReferenceIdeal := hReferenceIdeal) (hPre_cnt_positive := hPre_cnt_positive)
-- ==== Pre_cnt_positive.lean ====
abbrev S1536x384x32 : Shape := ⟨3, ![1536, 384, 32]⟩
abbrev S12x384x32 : Shape := ⟨3, ![12, 384, 32]⟩
abbrev S1536x384 : Shape := ⟨2, ![1536, 384]⟩
abbrev S384x384x128 : Shape := ⟨3, ![384, 384, 128]⟩
abbrev S1024x128 : Shape := ⟨2, ![1024, 128]⟩
abbrev S128 : Shape := ⟨1, ![128]⟩
abbrev S128x8 : Shape := ⟨2, ![128, 8]⟩
abbrev S384x384 : Shape := ⟨2, ![384, 384]⟩
abbrev S_ : Shape := ⟨0, ![]⟩

class Facts : Prop where
  bcast_S_S384x384 : S_.BroadcastsInDim S384x384 (![] : Fin 0 → Fin S384x384.rank)
  dot_S1536x384_S1536x384_S384x384_0_0_1_1_n_n_wf : DotDims.WF S1536x384 S1536x384 S384x384 [0] [0] [1] [1] [] []

variable [Facts]

def dot_S1536x384_S1536x384_S384x384_0_0_1_1_n_n : DotDims S1536x384 S1536x384 S384x384 where
  lhsContracting := [0]
  rhsContracting := [0]
  lhsNonContracting := [1]
  rhsNonContracting := [1]
  lhsBatch := []
  rhsBatch := []
  wf := dot_S1536x384_S1536x384_S384x384_0_0_1_1_n_n_wf
def fn {F : FTy → Type} [FloatOps F] (main_arg0 : IVec S1536x384x32 8) (main_arg1 : FVec F S12x384x32 .f32) (main_arg2 : IVec S1536x384x32 8) (main_arg3 : FVec F S12x384x32 .f32) (main_arg4 : FVec F S1536x384 .f32) (main_arg5 : FVec F S384x384x128 .bf16) (main_arg6 : FVec F S1024x128 .fp8e4m3) (main_arg7 : FVec F S128 .f32) (main_arg8 : FVec F S128 .f32) (main_arg9 : FVec F S128 .f32) (main_arg10 : FVec F S128 .f32) (main_arg11 : FVec F S128x8 .f32) : IVec S384x384 1 :=
  let main_v0 : FVec F S384x384 .f32 := (fun l r => Host.dotGeneral dot_S1536x384_S1536x384_S384x384_0_0_1_1_n_n (some .fp32) l r) main_arg4 main_arg4
  let main_cst : FVec F S_ .f32 := constant S_ .f32 0x3A83126F#32
  let main_v1 : FVec F S384x384 .f32 := broadcastInDim S384x384 ![] bcast_S_S384x384 main_cst
  let main_v2 : FVec F S384x384 .f32 := addf main_v0 main_v1
  let main_cst_0 : FVec F S_ .f32 := constant S_ .f32 0x00000000#32
  let main_v3 : FVec F S384x384 .f32 := broadcastInDim S384x384 ![] bcast_S_S384x384 main_cst_0
  let main_v4 : IVec S384x384 1 := cmpf .ogt main_v2 main_v3
  main_v4
-- ==== Kernel.lean ====
abbrev S1536x384x32 : Shape := ⟨3, ![1536, 384, 32]⟩
abbrev S12x384x32 : Shape := ⟨3, ![12, 384, 32]⟩
abbrev S1536x384 : Shape := ⟨2, ![1536, 384]⟩
abbrev S384x384x128 : Shape := ⟨3, ![384, 384, 128]⟩
abbrev S1024x128 : Shape := ⟨2, ![1024, 128]⟩
abbrev S128 : Shape := ⟨1, ![128]⟩
abbrev S128x8 : Shape := ⟨2, ![128, 8]⟩
abbrev S384x384 : Shape := ⟨2, ![384, 384]⟩
abbrev S1536x48x8x32 : Shape := ⟨4, ![1536, 48, 8, 32]⟩
abbrev S48x32x8x1536 : Shape := ⟨4, ![48, 32, 8, 1536]⟩
abbrev S48x256x1536 : Shape := ⟨3, ![48, 256, 1536]⟩
abbrev S12x128x384x32 : Shape := ⟨4, ![12, 128, 384, 32]⟩
abbrev S1536x3x128x32 : Shape := ⟨4, ![1536, 3, 128, 32]⟩
abbrev S1536x3x32x128 : Shape := ⟨4, ![1536, 3, 32, 128]⟩
abbrev S1536x12288 : Shape := ⟨2, ![1536, 12288]⟩
abbrev S128x1024 : Shape := ⟨2, ![128, 1024]⟩
abbrev S128x1 : Shape := ⟨2, ![128, 1]⟩
abbrev S128x128 : Shape := ⟨2, ![128, 128]⟩
abbrev S8x128 : Shape := ⟨2, ![8, 128]⟩
abbrev S8x384x384 : Shape := ⟨3, ![8, 384, 384]⟩
abbrev S384x384x1024 : Shape := ⟨3, ![384, 384, 1024]⟩
abbrev S1x256x1536 : Shape := ⟨3, ![1, 256, 1536]⟩
abbrev S1536x4096 : Shape := ⟨2, ![1536, 4096]⟩
abbrev S8x128x128 : Shape := ⟨3, ![8, 128, 128]⟩
abbrev S8x8x128 : Shape := ⟨3, ![8, 8, 128]⟩
abbrev S8x128x1024 : Shape := ⟨3, ![8, 128, 1024]⟩
abbrev S9216x128 : Shape := ⟨2, ![9216, 128]⟩
abbrev S256x1536 : Shape := ⟨2, ![256, 1536]⟩
abbrev S1536x512 : Shape := ⟨2, ![1536, 512]⟩
abbrev S256x512 : Shape := ⟨2, ![256, 512]⟩
abbrev S1x128 : Shape := ⟨2, ![1, 128]⟩
abbrev S1x128x128 : Shape := ⟨3, ![1, 128, 128]⟩
abbrev S1x128x1024 : Shape := ⟨3, ![1, 128, 1024]⟩
abbrev S8x1x128 : Shape := ⟨3, ![8, 1, 128]⟩

abbrev nBuf : Space → Nat
  | .hbm => 43
  | .vmem => 29
  | .smem => 0
  | _ => 0

abbrev bufTy : (tb : Table) → Fin (tcTables nBuf tb) → BufTy
  | .hbm, ⟨0, _⟩ => ⟨S1536x384x32, .i8⟩
  | .hbm, ⟨1, _⟩ => ⟨S12x384x32, .f32⟩
  | .hbm, ⟨2, _⟩ => ⟨S1536x384x32, .i8⟩
  | .hbm, ⟨3, _⟩ => ⟨S12x384x32, .f32⟩
  | .hbm, ⟨4, _⟩ => ⟨S1536x384, .f32⟩
  | .hbm, ⟨5, _⟩ => ⟨S384x384x128, .bf16⟩
  | .hbm, ⟨6, _⟩ => ⟨S1024x128, .fp8e4m3⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128x8, .f32⟩
  | .hbm, ⟨12, _⟩ => ⟨S384x384, .f32⟩
  | .hbm, ⟨13, _⟩ => ⟨S1536x48x8x32, .i8⟩
  | .hbm, ⟨14, _⟩ => ⟨S48x32x8x1536, .i8⟩
  | .hbm, ⟨15, _⟩ => ⟨S48x256x1536, .i8⟩
  | .hbm, ⟨16, _⟩ => ⟨S12x128x384x32, .f32⟩
  | .hbm, ⟨17, _⟩ => ⟨S1536x384x32, .f32⟩
  | .hbm, ⟨18, _⟩ => ⟨S1536x48x8x32, .f32⟩
  | .hbm, ⟨19, _⟩ => ⟨S48x32x8x1536, .f32⟩
  | .hbm, ⟨20, _⟩ => ⟨S48x256x1536, .f32⟩
  | .hbm, ⟨21, _⟩ => ⟨S1536x3x128x32, .i8⟩
  | .hbm, ⟨22, _⟩ => ⟨S1536x3x32x128, .i8⟩
  | .hbm, ⟨23, _⟩ => ⟨S1536x12288, .i8⟩
  | .hbm, ⟨24, _⟩ => ⟨S12x128x384x32, .f32⟩
  | .hbm, ⟨25, _⟩ => ⟨S1536x384x32, .f32⟩
  | .hbm, ⟨26, _⟩ => ⟨S1536x3x128x32, .f32⟩
  | .hbm, ⟨27, _⟩ => ⟨S1536x3x32x128, .f32⟩
  | .hbm, ⟨28, _⟩ => ⟨S1536x12288, .f32⟩
  | .hbm, ⟨29, _⟩ => ⟨S128x1024, .fp8e4m3⟩
  | .hbm, ⟨30, _⟩ => ⟨S128x1, .f32⟩
  | .hbm, ⟨31, _⟩ => ⟨S128x128, .f32⟩
  | .hbm, ⟨32, _⟩ => ⟨S128x1, .f32⟩
  | .hbm, ⟨33, _⟩ => ⟨S128x128, .f32⟩
  | .hbm, ⟨34, _⟩ => ⟨S128x1, .f32⟩
  | .hbm, ⟨35, _⟩ => ⟨S128x128, .f32⟩
  | .hbm, ⟨36, _⟩ => ⟨S128x1, .f32⟩
  | .hbm, ⟨37, _⟩ => ⟨S128x128, .f32⟩
  | .hbm, ⟨38, _⟩ => ⟨S8x128, .f32⟩
  | .hbm, ⟨39, _⟩ => ⟨S384x384x128, .bf16⟩
  | .hbm, ⟨40, _⟩ => ⟨S8x384x384, .f32⟩
  | .hbm, ⟨41, _⟩ => ⟨S384x384x1024, .fp8e4m3⟩
  | .hbm, ⟨42, _⟩ => ⟨S384x384, .f32⟩
  | .local _ .vmem, ⟨0, _⟩ => ⟨S1536x384, .f32⟩
  | .local _ .vmem, ⟨1, _⟩ => ⟨S384x384, .f32⟩
  | .local _ .vmem, ⟨2, _⟩ => ⟨S1x256x1536, .i8⟩
  | .local _ .vmem, ⟨3, _⟩ => ⟨S1x256x1536, .i8⟩
  | .local _ .vmem, ⟨4, _⟩ => ⟨S1x256x1536, .f32⟩
  | .local _ .vmem, ⟨5, _⟩ => ⟨S1x256x1536, .f32⟩
  | .local _ .vmem, ⟨6, _⟩ => ⟨S1536x4096, .i8⟩
  | .local _ .vmem, ⟨7, _⟩ => ⟨S1536x4096, .i8⟩
  | .local _ .vmem, ⟨8, _⟩ => ⟨S1536x4096, .f32⟩
  | .local _ .vmem, ⟨9, _⟩ => ⟨S1536x4096, .f32⟩
  | .local _ .vmem, ⟨10, _⟩ => ⟨S8x128, .f32⟩
  | .local _ .vmem, ⟨11, _⟩ => ⟨S8x128, .f32⟩
  | .local _ .vmem, ⟨12, _⟩ => ⟨S8x128x128, .bf16⟩
  | .local _ .vmem, ⟨13, _⟩ => ⟨S8x128x128, .bf16⟩
  | .local _ .vmem, ⟨14, _⟩ => ⟨S128x1024, .fp8e4m3⟩
  | .local _ .vmem, ⟨15, _⟩ => ⟨S128x128, .f32⟩
  | .local _ .vmem, ⟨16, _⟩ => ⟨S128x128, .f32⟩
  | .local _ .vmem, ⟨17, _⟩ => ⟨S128x128, .f32⟩
  | .local _ .vmem, ⟨18, _⟩ => ⟨S128x128, .f32⟩
  | .local _ .vmem, ⟨19, _⟩ => ⟨S8x128, .f32⟩
  | .local _ .vmem, ⟨20, _⟩ => ⟨S8x128x128, .bf16⟩
  | .local _ .vmem, ⟨21, _⟩ => ⟨S8x128x128, .bf16⟩
  | .local _ .vmem, ⟨22, _⟩ => ⟨S8x8x128, .f32⟩
  | .local _ .vmem, ⟨23, _⟩ => ⟨S8x8x128, .f32⟩
  | .local _ .vmem, ⟨24, _⟩ => ⟨S8x128x1024, .fp8e4m3⟩
  | .local _ .vmem, ⟨25, _⟩ => ⟨S8x128x1024, .fp8e4m3⟩
  | .local _ .vmem, ⟨26, _⟩ => ⟨S8x128, .f32⟩
  | .local _ .vmem, ⟨27, _⟩ => ⟨S8x128, .f32⟩
  | .local _ .vmem, ⟨28, _⟩ => ⟨S9216x128, .f32⟩
  | _, _ => ⟨S1536x384x32, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27_0 : Ref sig .tc := ⟨.hbm, 39, rfl⟩
abbrev main_v27_1 : Ref sig .tc := ⟨.hbm, 40, rfl⟩
abbrev main_v27_2 : Ref sig .tc := ⟨.hbm, 41, rfl⟩
abbrev main_v27_3 : Ref sig .tc := ⟨.hbm, 42, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg2_1 : Ref sig .tc := ⟨.vmem, 7, rfl⟩
abbrev cc1_stg3_0 : Ref sig .tc := ⟨.vmem, 8, rfl⟩
abbrev cc1_stg3_1 : Ref sig .tc := ⟨.vmem, 9, rfl⟩
abbrev cc1_stg4_0 : Ref sig .tc := ⟨.vmem, 10, rfl⟩
abbrev cc1_stg4_1 : Ref sig .tc := ⟨.vmem, 11, rfl⟩
abbrev cc1_stg5_0 : Ref sig .tc := ⟨.vmem, 12, rfl⟩
abbrev cc1_stg5_1 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg9_0 : Ref sig .tc := ⟨.vmem, 17, rfl⟩
abbrev cc1_stg10_0 : Ref sig .tc := ⟨.vmem, 18, rfl⟩
abbrev cc1_stg11_0 : Ref sig .tc := ⟨.vmem, 19, rfl⟩
abbrev cc1_stg12_0 : Ref sig .tc := ⟨.vmem, 20, rfl⟩
abbrev cc1_stg12_1 : Ref sig .tc := ⟨.vmem, 21, rfl⟩
abbrev cc1_stg13_0 : Ref sig .tc := ⟨.vmem, 22, rfl⟩
abbrev cc1_stg13_1 : Ref sig .tc := ⟨.vmem, 23, rfl⟩
abbrev cc1_stg14_0 : Ref sig .tc := ⟨.vmem, 24, rfl⟩
abbrev cc1_stg14_1 : Ref sig .tc := ⟨.vmem, 25, rfl⟩
abbrev cc1_stg15_0 : Ref sig .tc := ⟨.vmem, 26, rfl⟩
abbrev cc1_stg15_1 : Ref sig .tc := ⟨.vmem, 27, rfl⟩
abbrev cc1_scratch0 : Ref sig .tc := ⟨.vmem, 28, rfl⟩
abbrev cc0_sem0_0 : DmaSem sig := 0
abbrev cc0_sem1_0 : DmaSem sig := 1
abbrev cc1_sem0_0 : DmaSem sig := 2
abbrev cc1_sem0_1 : DmaSem sig := 3
abbrev cc1_sem1_0 : DmaSem sig := 4
abbrev cc1_sem1_1 : DmaSem sig := 5
abbrev cc1_sem2_0 : DmaSem sig := 6
abbrev cc1_sem2_1 : DmaSem sig := 7
abbrev cc1_sem3_0 : DmaSem sig := 8
abbrev cc1_sem3_1 : DmaSem sig := 9
abbrev cc1_sem4_0 : DmaSem sig := 10
abbrev cc1_sem4_1 : DmaSem sig := 11
abbrev cc1_sem5_0 : DmaSem sig := 12
abbrev cc1_sem5_1 : DmaSem sig := 13
abbrev cc1_sem6_0 : DmaSem sig := 14
abbrev cc1_sem7_0 : DmaSem sig := 15
abbrev cc1_sem8_0 : DmaSem sig := 16
abbrev cc1_sem9_0 : DmaSem sig := 17
abbrev cc1_sem10_0 : DmaSem sig := 18
abbrev cc1_sem11_0 : DmaSem sig := 19
abbrev cc1_sem12_0 : DmaSem sig := 20
abbrev cc1_sem12_1 : DmaSem sig := 21
abbrev cc1_sem13_0 : DmaSem sig := 22
abbrev cc1_sem13_1 : DmaSem sig := 23
abbrev cc1_sem14_0 : DmaSem sig := 24
abbrev cc1_sem14_1 : DmaSem sig := 25
abbrev cc1_sem15_0 : DmaSem sig := 26
abbrev cc1_sem15_1 : DmaSem sig := 27

abbrev nD : Nat := 1
abbrev τ : Topo := Topo.v7x

variable {F : FTy → Type} [FloatOps F]

abbrev grid0 : Pipeline.Grid := .none

abbrev stage0_0 : Fin 1 → Memref sig .tc .vmem S1536x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S384x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev grid1 : Pipeline.Grid := ⟨2, ![3, 48], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_13 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc1_transform_14 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_15 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S1x256x1536 .i8 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1x256x1536 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1536x4096 .i8 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1536x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S8x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S8x128x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 1 → Memref sig .tc .vmem S128x1024 .fp8e4m3 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S128x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S128x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 1 → Memref sig .tc .vmem S128x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false]

abbrev stage1_10 : Fin 1 → Memref sig .tc .vmem S128x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false, false]

abbrev stage1_11 : Fin 1 → Memref sig .tc .vmem S8x128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false, false]

abbrev stage1_12 : Fin 2 → Memref sig .tc .vmem S8x128x128 .bf16 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, true]

abbrev stage1_13 : Fin 2 → Memref sig .tc .vmem S8x8x128 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true, true]

abbrev stage1_14 : Fin 2 → Memref sig .tc .vmem S8x128x1024 .fp8e4m3 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true, true]

abbrev stage1_15 : Fin 2 → Memref sig .tc .vmem S8x128 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true, true]
-- ==== ReferenceIdeal.lean ====
abbrev S1536x384x32 : Shape := ⟨3, ![1536, 384, 32]⟩
abbrev S12x384x32 : Shape := ⟨3, ![12, 384, 32]⟩
abbrev S1536x384 : Shape := ⟨2, ![1536, 384]⟩
abbrev S384x384x128 : Shape := ⟨3, ![384, 384, 128]⟩
abbrev S1024x128 : Shape := ⟨2, ![1024, 128]⟩
abbrev S128 : Shape := ⟨1, ![128]⟩
abbrev S128x8 : Shape := ⟨2, ![128, 8]⟩
abbrev S8x384x384 : Shape := ⟨3, ![8, 384, 384]⟩
abbrev S384x384x1024 : Shape := ⟨3, ![384, 384, 1024]⟩
abbrev S384x384 : Shape := ⟨2, ![384, 384]⟩
abbrev S12x1x384x32 : Shape := ⟨4, ![12, 1, 384, 32]⟩
abbrev S12x128x384x32 : Shape := ⟨4, ![12, 128, 384, 32]⟩
abbrev S384x32x384x32 : Shape := ⟨4, ![384, 32, 384, 32]⟩
abbrev S384x384x32x32 : Shape := ⟨4, ![384, 384, 32, 32]⟩
abbrev S384x384x1x1 : Shape := ⟨4, ![384, 384, 1, 1]⟩
abbrev S384x384x1 : Shape := ⟨3, ![384, 384, 1]⟩
abbrev S1x1x128 : Shape := ⟨3, ![1, 1, 128]⟩

abbrev nBuf : Space → Nat
  | .hbm => 16
  | .vmem => 16
  | .smem => 0
  | _ => 0

abbrev bufTy : (tb : Table) → Fin (tcTables nBuf tb) → BufTy
  | .hbm, ⟨0, _⟩ => ⟨S1536x384x32, .i8⟩
  | .hbm, ⟨1, _⟩ => ⟨S12x384x32, .f32⟩
  | .hbm, ⟨2, _⟩ => ⟨S1536x384x32, .i8⟩
  | .hbm, ⟨3, _⟩ => ⟨S12x384x32, .f32⟩
  | .hbm, ⟨4, _⟩ => ⟨S1536x384, .f32⟩
  | .hbm, ⟨5, _⟩ => ⟨S384x384x128, .bf16⟩
  | .hbm, ⟨6, _⟩ => ⟨S1024x128, .fp8e4m3⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128x8, .f32⟩
  | .hbm, ⟨12, _⟩ => ⟨S384x384x128, .bf16⟩
  | .hbm, ⟨13, _⟩ => ⟨S8x384x384, .f32⟩
  | .hbm, ⟨14, _⟩ => ⟨S384x384x1024, .fp8e4m3⟩
  | .hbm, ⟨15, _⟩ => ⟨S384x384, .f32⟩
  | .local _ .vmem, ⟨0, _⟩ => ⟨S1536x384x32, .i8⟩
  | .local _ .vmem, ⟨1, _⟩ => ⟨S12x384x32, .f32⟩
  | .local _ .vmem, ⟨2, _⟩ => ⟨S1536x384x32, .i8⟩
  | .local _ .vmem, ⟨3, _⟩ => ⟨S12x384x32, .f32⟩
  | .local _ .vmem, ⟨4, _⟩ => ⟨S1536x384, .f32⟩
  | .local _ .vmem, ⟨5, _⟩ => ⟨S384x384x128, .bf16⟩
  | .local _ .vmem, ⟨6, _⟩ => ⟨S1024x128, .fp8e4m3⟩
  | .local _ .vmem, ⟨7, _⟩ => ⟨S128, .f32⟩
  | .local _ .vmem, ⟨8, _⟩ => ⟨S128, .f32⟩
  | .local _ .vmem, ⟨9, _⟩ => ⟨S128, .f32⟩
  | .local _ .vmem, ⟨10, _⟩ => ⟨S128, .f32⟩
  | .local _ .vmem, ⟨11, _⟩ => ⟨S128x8, .f32⟩
  | .local _ .vmem, ⟨12, _⟩ => ⟨S384x384x128, .bf16⟩
  | .local _ .vmem, ⟨13, _⟩ => ⟨S8x384x384, .f32⟩
  | .local _ .vmem, ⟨14, _⟩ => ⟨S384x384x1024, .fp8e4m3⟩
  | .local _ .vmem, ⟨15, _⟩ => ⟨S384x384, .f32⟩
  | _, _ => ⟨S1536x384x32, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F]

abbrev grid0 : Pipeline.Grid := .none

abbrev stage0_0 : Fin 1 → Memref sig .tc .vmem S1536x384x32 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12x384x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x384x32 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S12x384x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1536x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S384x384x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x128 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S128x8 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S384x384x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S8x384x384 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S384x384x1024 .fp8e4m3 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S384x384 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
-- ==== Proof.Tiles.lean ====
module

public import proofs.«01_k».proof.Proof.Gen.KernelIdeal.Frame

@[expose] public section

noncomputable section

namespace Cert.KernelIdeal.Val
open Cert.KernelIdeal Cert.KernelIdeal.Gen Idealize.ShloMosaic Idealize.ShloMosaic.TcCoe

variable {F : FTy → Type} [FloatOps F]

/-- Store number `n` of the first loop nest takes rows `8c … 8c+7` of the product. -/
theorem tile_slices (n : Nat) : S256x512.Slices ![8 * (n % 128 / 4), 128 * (n % 4)] S8x128 := by
  refine ⟨rfl, fun k => ?_⟩
  have h1 : n % 128 / 4 < 32 := by omega
  have h2 : n % 4 < 4 := by omega
  fin_cases k <;> simp [S256x512, S8x128] <;> omega

/-- The tile of the product `R` that store number `n` writes. -/
def tile (R : FVec F S256x512 .f32) (n : Nat) : FVec F S8x128 .f32 :=
  extractStridedSlice S8x128 ![8 * (n % 128 / 4), 128 * (n % 4)] R (tile_slices n)

/-- The scratch row at which store number `n` begins. -/
def tileRow (n : Nat) : Nat := 9 * (32 * (n % 128 / 4) + 4 * (n / 128 % 8) + n % 4)

/-- The tile's store stays in the scratch. -/
theorem tile_inb (n : Nat) : ∀ a, (![tileRow n, 0] : Fin 2 → Nat) a + S8x128.size a ≤ S9216x128.size a := by
  intro a
  have h1 : n % 128 / 4 < 32 := by omega
  fin_cases a <;> simp [S9216x128, S8x128, tileRow] <;> omega

/-- Store number `n` of the first loop nest. -/
def piece (R : Nat → FVec F S256x512 .f32) (n : Nat) : View.Piece (Elt F) S9216x128 .f32 :=
  ⟨Rect.unit (s := S9216x128) ![tileRow n, 0] S8x128.size (tile_inb n),
    shapeCast S8x128 (tile (R (n / 128 % 8)) n) shapeCasts_S8x128_S8x128⟩

/-- The first `n` stores, the newest first. -/
def pieces (R : Nat → FVec F S256x512 .f32) : Nat → List (View.Piece (Elt F) S9216x128 .f32)
  | 0 => []
  | n + 1 => piece R n :: pieces R n

/-- The running maximum of absolute values after `n` tiles. -/
def omaxFold (R : Nat → FVec F S256x512 .f32) : Nat → FVec F S8x128 .f32
  | 0 => broadcast S8x128 (Scalar.ofBits .f32 0x00000000#32)
  | n + 1 => maximumf (omaxFold R n) (absf (tile (R (n / 128 % 8)) n))

/-- The columns stay in the block. -/
theorem col_inb (k : Nat) : ∀ a, (![0, 512 * (k % 8)] : Fin 2 → Nat) a + S1536x512.size a ≤ S1536x4096.size a := by
  intro a
  fin_cases a <;> simp [S1536x512, S1536x4096] <;> omega

/-- The product of the widened left block with 512 columns of the widened right block. -/
def prodBlk (arg2 : Memref sig .tc .vmem S1x256x1536 .i8) (harg2 : arg2.IsWhole)
    (arg3 : Memref sig .tc .vmem S1x256x1536 .f32) (harg3 : arg3.IsWhole)
    (arg4 : Memref sig .tc .vmem S1536x4096 .i8) (harg4 : arg4.IsWhole)
    (arg5 : Memref sig .tc .vmem S1536x4096 .f32) (harg5 : arg5.IsWhole)
    (x0 : Vec F S1x256x1536 .i8) (x1 : Vec F S1x256x1536 .f32) (x2 : Vec F S1536x4096 .i8) (x3 : Vec F S1536x4096 .f32)
    (k : Nat) : FVec F S256x512 .f32 :=
  k1_pay3 (View.readAt (Elt F) arg2.view (Rect.unit (s := S1x256x1536) ![0, 0, 0] S1x256x1536.size inb_S1x256x1536_S1x256x1536_0_0_0).toLoadRect (harg2.unread x0))
    (View.readAt (Elt F) arg3.view (Rect.unit (s := S1x256x1536) ![0, 0, 0] S1x256x1536.size inb_S1x256x1536_S1x256x1536_0_0_0).toLoadRect (harg3.unread x1))
    (View.readAt (Elt F) arg4.view (Rect.unit (s := S1536x4096) ![0, 512 * (k % 8)] S1536x512.size (col_inb k)).toLoadRect (harg4.unread x2))
    (View.readAt (Elt F) arg5.view (Rect.unit (s := S1536x4096) ![0, 512 * (k % 8)] S1536x512.size (col_inb k)).toLoadRect (harg5.unread x3))

/-- The scale block of one tile. -/
def scaleOf (omax cnt : FVec F S8x128 .f32) : FVec F S8x128 .f32 :=
  select (cmpf .oeq (divf omax cnt) (broadcast S8x128 (Scalar.ofBits .f32 0x00000000#32)))
    (broadcast S8x128 (Scalar.ofBits .f32 0x3F800000#32))
    (divf (divf omax cnt) (broadcast S8x128 (Scalar.ofBits .f32 0x43E00000#32)))

/-- The multiplier of the codes: one over scale times count. -/
def invOf (scale cnt : FVec F S8x128 .f32) : FVec F S8x128 .f32 :=
  divf (broadcast S8x128 (Scalar.ofBits .f32 0x3F800000#32)) (mulf scale cnt)

/-- A row of a block of eight is a slice of it. -/
theorem row_slices (i : Nat) : S8x128.Slices ![i % 8, 0] S1x128 := by
  refine ⟨rfl, fun k => ?_⟩
  fin_cases k <;> simp [S1x128, S8x128] <;> omega

/-- The strided read stays in the scratch. -/
theorem strided_inb (n : Nat) : ∀ a, S128x128.size a = 0 ∨ (![9 * 128 * (n % 8) + n / 8 % 8, 0] : Fin 2 → Nat) a + (![9, 1] : Fin 2 → Nat) a * (S128x128.size a - 1) < S9216x128.size a := by
  intro a
  fin_cases a <;> simp [S128x128, S9216x128] <;> omega

/-- The codes' store stays in its block. -/
theorem code_inb (n : Nat) : ∀ a, (![n / 8 % 8, 0, 128 * (n % 8)] : Fin 3 → Nat) a + S1x128x128.size a ≤ S8x128x1024.size a := by
  intro a
  fin_cases a <;> simp [S1x128x128, S8x128x1024] <;> omega

/-- The codes of row `i` and 128 channels, from the strided rows `t` of the scratch. -/
def codeVal (inv : FVec F S8x128 .f32) (i : Nat) (t : FVec F S128x128 .f32) : FVec F S1x128x128 .fp8e4m3 :=
  shapeCast S1x128x128 (truncf .fp8e4m3 (transpose S128x128 [1, 0]
    (minimumf (broadcast S128x128 (Scalar.ofBits .f32 0x43E00000#32))
      (maximumf (broadcast S128x128 (Scalar.ofBits .f32 0xC3E00000#32))
        (mulf t (broadcastTo S128x128 (extractStridedSlice S1x128 ![i % 8, 0] inv (row_slices i)) broadcasts_S1x128_S128x128))))
    transposes_S128x128_p1_0_S128x128) bitsLt_fp8e4m3_f32) shapeCasts_S128x128_S1x128x128

/-- Store number `n` of the codes: row `n / 8`, channels `128 (n % 8) …`. -/
def codePiece (inv : FVec F S8x128 .f32) (L : Nat → FVec F S128x128 .f32) (n : Nat) : View.Piece (Elt F) S8x128x1024 .fp8e4m3 :=
  ⟨Rect.unit (s := S8x128x1024) ![n / 8 % 8, 0, 128 * (n % 8)] S1x128x128.size (code_inb n), codeVal inv (n / 8) (L n)⟩

/-- The first `n` stores of the codes, the newest first. -/
def codePieces (inv : FVec F S8x128 .f32) (L : Nat → FVec F S128x128 .f32) : Nat → List (View.Piece (Elt F) S8x128x1024 .fp8e4m3)
  | 0 => []
  | n + 1 => codePiece inv L n :: codePieces inv L n

/-- The strided load number `n` from a scratch holding the stores `L`. -/
def strided (arg18 : Memref sig .tc .vmem S9216x128 .f32) (L : List (View.Piece (Elt F) S9216x128 .f32)) (n : Nat) : FVec F S128x128 .f32 :=
  arg18.view.readCov L { off := ![9 * 128 * (n % 8) + n / 8 % 8, 0], size := S128x128.size, stride := ![9, 1], inb := strided_inb n }

/-- A row of pairs stays in its block. -/
theorem rowz_inb (i : Nat) : ∀ a, (![i % 8, 0, 0] : Fin 3 → Nat) a + S1x128x128.size a ≤ S8x128x128.size a := by
  intro a
  fin_cases a <;> simp [S1x128x128, S8x128x128] <;> omega

/-- A row of codes stays in its block. -/
theorem rowc_inb (i : Nat) : ∀ a, (![i % 8, 0, 0] : Fin 3 → Nat) a + S1x128x1024.size a ≤ S8x128x1024.size a := by
  intro a
  fin_cases a <;> simp [S1x128x1024, S8x128x1024] <;> omega

/-- A row of logits stays in its block. -/
theorem rowp_inb (i : Nat) : ∀ a, (![0, i % 8, 0] : Fin 3 → Nat) a + S8x1x128.size a ≤ S8x8x128.size a := by
  intro a
  fin_cases a <;> simp [S8x1x128, S8x8x128] <;> omega

/-- The updated pair row `i`, channels down and positions across. -/
def zRow (scale : FVec F S8x128 .f32) (wo : Vec F S128x1024 .fp8e4m3) (oc : Vec F S1x128x1024 .fp8e4m3) (z : Vec F S1x128x128 .bf16)
    (wos bo : Vec F S128x128 .f32) (i : Nat) : FVec F S128x128 .f32 :=
  addf (transpose S128x128 [1, 0] (extf .f32 (shapeCast S128x128 z shapeCasts_S1x128x128_S128x128) bitsLt_bf16_f32) transposes_S128x128_p1_0_S128x128)
    (addf (mulf (mulf (matmul dot_S128x1024_S128x1024_S128x128_1_1_0_0_n_n none (shapeCast S128x1024 wo shapeCasts_S128x1024_S128x1024)
            (shapeCast S128x1024 oc shapeCasts_S1x128x1024_S128x1024) (constant S128x128 .f32 0x00000000#32))
          (broadcastTo S128x128 (extractStridedSlice S1x128 ![i % 8, 0] scale (row_slices i)) broadcasts_S1x128_S128x128))
        (shapeCast S128x128 wos shapeCasts_S128x128_S128x128))
      (shapeCast S128x128 bo shapeCasts_S128x128_S128x128))

/-- What is stored of an updated pair row. -/
def zOut (z : FVec F S128x128 .f32) : FVec F S1x128x128 .bf16 :=
  shapeCast S1x128x128 (truncf .bf16 (transpose S128x128 [1, 0] z transposes_S128x128_p1_0_S128x128) bitsLt_bf16_f32) shapeCasts_S128x128_S1x128x128

/-- Store number `i` of the updated pair rows. -/
def zPiece (Z : Nat → FVec F S128x128 .f32) (i : Nat) : View.Piece (Elt F) S8x128x128 .bf16 :=
  ⟨Rect.unit (s := S8x128x128) ![i % 8, 0, 0] S1x128x128.size (rowz_inb i), zOut (Z i)⟩

/-- The first `n` stores of the updated pair rows, the newest first. -/
def zPieces (Z : Nat → FVec F S128x128 .f32) : Nat → List (View.Piece (Elt F) S8x128x128 .bf16)
  | 0 => []
  | n + 1 => zPiece Z n :: zPieces Z n

/-- Store number `i` of the logits. -/
def pbPiece (Z : Nat → FVec F S128x128 .f32) (g be : Vec F S128x128 .f32) (wpb : Vec F S8x128 .f32) (i : Nat) : View.Piece (Elt F) S8x8x128 .f32 :=
  ⟨Rect.unit (s := S8x8x128) ![0, i % 8, 0] S8x1x128.size (rowp_inb i), k1_pay1 (Z i) g be wpb⟩

/-- The first `n` stores of the logits, the newest first. -/
def pbPieces (Z : Nat → FVec F S128x128 .f32) (g be : Vec F S128x128 .f32) (wpb : Vec F S8x128 .f32) : Nat → List (View.Piece (Elt F) S8x8x128 .f32)
  | 0 => []
  | n + 1 => pbPiece Z g be wpb n :: pbPieces Z g be wpb n

variable (c : Dev nD) (i : grid1.Coords) (arg2 : Memref sig .tc .vmem S1x256x1536 .i8) (harg2 : arg2.IsWhole) (arg3 : Memref sig .tc .vmem S1x256x1536 .f32) (harg3 : arg3.IsWhole) (arg4 : Memref sig .tc .vmem S1536x4096 .i8) (harg4 : arg4.IsWhole) (arg5 : Memref sig .tc .vmem S1536x4096 .f32) (harg5 : arg5.IsWhole) (arg6 : Memref sig .tc .vmem S8x128 .f32) (harg6 : arg6.IsWhole) (arg7 : Memref sig .tc .vmem S8x128x128 .bf16) (harg7 : arg7.IsWhole) (arg8 : Memref sig .tc .vmem S128x1024 .fp8e4m3) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S8x128 .f32) (harg13 : arg13.IsWhole) (arg14 : Memref sig .tc .vmem S8x128x128 .bf16) (harg14 : arg14.IsWhole) (arg15 : Memref sig .tc .vmem S8x8x128 .f32) (harg15 : arg15.IsWhole) (arg16 : Memref sig .tc .vmem S8x128x1024 .fp8e4m3) (harg16 : arg16.IsWhole) (arg17 : Memref sig .tc .vmem S8x128 .f32) (harg17 : arg17.IsWhole) (arg18 : Memref sig .tc .vmem S9216x128 .f32) (harg18 : arg18.IsWhole)
    (x0 : Vec F S1x256x1536 .i8) (x1 : Vec F S1x256x1536 .f32) (x2 : Vec F S1536x4096 .i8) (x3 : Vec F S1536x4096 .f32) (x4 : Vec F S8x128 .f32) (x5 : Vec F S8x128x128 .bf16) (x6 : Vec F S128x1024 .fp8e4m3) (x7 : Vec F S128x128 .f32) (x8 : Vec F S128x128 .f32) (x9 : Vec F S128x128 .f32) (x10 : Vec F S128x128 .f32) (x11 : Vec F S8x128 .f32)

/-- The scale block of the executed body. -/
def scaleBlk : FVec F S8x128 .f32 :=
  scaleOf (omaxFold (prodBlk arg2 harg2 arg3 harg3 arg4 harg4 arg5 harg5 x0 x1 x2 x3) 1024)
    (shapeCast S8x128 (View.readAt (Elt F) arg6.view (Rect.unit (s := S8x128) ![0, 0] S8x128.size inb_S8x128_S8x128_0_0).toLoadRect (harg6.unread x4)) shapeCasts_S8x128_S8x128)

/-- The multiplier block of the executed body. -/
def invBlk : FVec F S8x128 .f32 :=
  invOf (scaleBlk arg2 harg2 arg3 harg3 arg4 harg4 arg5 harg5 arg6 harg6 x0 x1 x2 x3 x4)
    (shapeCast S8x128 (View.readAt (Elt F) arg6.view (Rect.unit (s := S8x128) ![0, 0] S8x128.size inb_S8x128_S8x128_0_0).toLoadRect (harg6.unread x4)) shapeCasts_S8x128_S8x128)

/-- The code stores of the executed body. -/
def codeStores : List (View.Piece (Elt F) S8x128x1024 .fp8e4m3) :=
  codePieces (invBlk arg2 harg2 arg3 harg3 arg4 harg4 arg5 harg5 arg6 harg6 x0 x1 x2 x3 x4)
    (strided arg18 (pieces (prodBlk arg2 harg2 arg3 harg3 arg4 harg4 arg5 harg5 x0 x1 x2 x3) 1024)) 64

/-- The updated pair row `i` of the executed body. -/
def zBlk (i : Nat) : FVec F S128x128 .f32 :=
  zRow (scaleBlk arg2 harg2 arg3 harg3 arg4 harg4 arg5 harg5 arg6 harg6 x0 x1 x2 x3 x4)
    (View.readAt (Elt F) arg8.view (Rect.unit (s := S128x1024) ![0, 0] S128x1024.size inb_S128x1024_S128x1024_0_0).toLoadRect (harg8.unread x6))
    (arg16.view.readCov (codeStores arg2 harg2 arg3 harg3 arg4 harg4 arg5 harg5 arg6 harg6 arg18 x0 x1 x2 x3 x4)
      (Rect.unit (s := S8x128x1024) ![i % 8, 0, 0] S1x128x1024.size (rowc_inb i)).toLoadRect)
    (View.readAt (Elt F) arg7.view (Rect.unit (s := S8x128x128) ![i % 8, 0, 0] S1x128x128.size (rowz_inb i)).toLoadRect (harg7.unread x5))
    (View.readAt (Elt F) arg9.view (Rect.unit (s := S128x128) ![0, 0] S128x128.size inb_S128x128_S128x128_0_0).toLoadRect (harg9.unread x7))
    (View.readAt (Elt F) arg10.view (Rect.unit (s := S128x128) ![0, 0] S128x128.size inb_S128x128_S128x128_0_0).toLoadRect (harg10.unread x8)) i

set_option maxRecDepth 65536

/-- The executed stores of the updated pair rows. -/
theorem run_z : (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11).1
    = zPieces (zBlk arg2 harg2 arg3 harg3 arg4 harg4 arg5 harg5 arg6 harg6 arg7 harg7 arg8 harg8 arg9 harg9 arg10 harg10 arg16 arg18 x0 x1 x2 x3 x4 x5 x6 x7 x8) 8 := by
  sl_kernel_rfl

/-- The executed stores of the logits. -/
theorem run_pb : (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11).2.1
    = pbPieces (zBlk arg2 harg2 arg3 harg3 arg4 harg4 arg5 harg5 arg6 harg6 arg7 harg7 arg8 harg8 arg9 harg9 arg10 harg10 arg16 arg18 x0 x1 x2 x3 x4 x5 x6 x7 x8)
        (View.readAt (Elt F) arg11.view (Rect.unit (s := S128x128) ![0, 0] S128x128.size inb_S128x128_S128x128_0_0).toLoadRect (harg11.unread x9))
        (View.readAt (Elt F) arg12.view (Rect.unit (s := S128x128) ![0, 0] S128x128.size inb_S128x128_S128x128_0_0).toLoadRect (harg12.unread x10))
        (View.readAt (Elt F) arg13.view (Rect.unit (s := S8x128) ![0, 0] S8x128.size inb_S8x128_S8x128_0_0).toLoadRect (harg13.unread x11)) 8 := by
  sl_kernel_rfl

/-- The executed stores of the codes. -/
theorem run_codes : (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11).2.2.1
    = codeStores arg2 harg2 arg3 harg3 arg4 harg4 arg5 harg5 arg6 harg6 arg18 x0 x1 x2 x3 x4 := by
  sl_kernel_rfl

/-- The executed store of the scales. -/
theorem run_scale : (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11).2.2.2.1
    = [⟨Rect.unit (s := S8x128) ![0, 0] S8x128.size inb_S8x128_S8x128_0_0,
        scaleBlk arg2 harg2 arg3 harg3 arg4 harg4 arg5 harg5 arg6 harg6 x0 x1 x2 x3 x4⟩] := by
  sl_kernel_rfl

end Cert.KernelIdeal.Val
-- ==== Proof.Read.lean ====
module

public import proofs.«01_k».proof.Proof.Tiles
public import Idealize.ShloMosaic.Lib.Pointwise
public import Idealize.ShloMosaic.Lib.Pipeline.Value

@[expose] public section

noncomputable section

namespace Cert.KernelIdeal.Val
open Cert.KernelIdeal Cert.KernelIdeal.Gen Idealize.ShloMosaic Idealize.ShloMosaic.TcCoe Idealize.ShloMosaic.Pointwise
open scoped BigOperators

/-- Row `r` of the widened left block. -/
def A (x0 : Vec Ideal S1x256x1536 .i8) (x1 : Vec Ideal S1x256x1536 .f32) (r : Nat) (s : Fin 1536) : EReal :=
  FloatOps.sitofp (F := Ideal) .bf16 (x0 (ix3 0 (Fin.ofNat 256 r) s)) * x1 (ix3 0 (Fin.ofNat 256 r) s)

/-- Column `u` of the widened right block. -/
def B (x2 : Vec Ideal S1536x4096 .i8) (x3 : Vec Ideal S1536x4096 .f32) (u : Nat) (s : Fin 1536) : EReal :=
  FloatOps.sitofp (F := Ideal) .bf16 (x2 (ix2 s (Fin.ofNat 4096 u))) * x3 (ix2 s (Fin.ofNat 4096 u))

/-- The unnormalised outer product of row `i`, position `l`, channel `n`. -/
def O (x0 : Vec Ideal S1x256x1536 .i8) (x1 : Vec Ideal S1x256x1536 .f32) (x2 : Vec Ideal S1536x4096 .i8) (x3 : Vec Ideal S1536x4096 .f32)
    (i l n : Nat) : EReal :=
  ∑ s, A x0 x1 (8 * (n / 32) + i) s * B x2 x3 (128 * (n % 32) + l) s

/-- An index of a rank-two array is its two coordinates. -/
theorem eq2 {m n : Nat} {i : Fin m} {j : Fin n} (y : Shape.Idx ⟨2, ![m, n]⟩) (h0 : (y 0).val = i.val) (h1 : (y 1).val = j.val) : y = ix2 i j := by
  rw [eq_ix2 y]; congr 1 <;> exact Fin.ext (by assumption)

/-- An index of a rank-three array is its three coordinates. -/
theorem eq3 {m n p : Nat} {i : Fin m} {j : Fin n} {k : Fin p} (y : Shape.Idx ⟨3, ![m, n, p]⟩) (h0 : (y 0).val = i.val) (h1 : (y 1).val = j.val)
    (h2 : (y 2).val = k.val) : y = ix3 i j k := by
  rw [eq_ix3 y]; congr 1 <;> exact Fin.ext (by assumption)

/-- The channel that store number `n` of the first loop nest holds. -/
def chan (n : Nat) : Nat := 32 * (n % 128 / 4) + 4 * (n / 128 % 8) + n % 4
/-- The store that holds channel `n`. -/
def storeOf (n : Nat) : Nat := 128 * (n % 32 / 4) + 4 * (n / 32) + n % 4

/-- A channel is less than 1024. -/
theorem chan_lt (n : Nat) : chan n < 1024 := by unfold chan; omega
/-- `storeOf` finds the store of a channel. -/
theorem chan_storeOf (n : Nat) (h : n < 1024) : chan (storeOf n) = n := by
  unfold chan storeOf
  have e : n = 32 * (n / 32) + 4 * (n % 32 / 4) + n % 4 := by omega
  have ha : n / 32 < 32 := by omega
  have hb : n % 32 / 4 < 8 := by omega
  have hd : n % 4 < 4 := by omega
  generalize n / 32 = a at *
  generalize n % 32 / 4 = b at *
  generalize n % 4 = d at *
  have h1 : (128 * b + 4 * a + d) % 128 = 4 * a + d := by omega
  have h2 : (128 * b + 4 * a + d) / 128 = b := by omega
  rw [h1, h2]
  omega
/-- There are 1024 stores. -/
theorem storeOf_lt (n : Nat) (h : n < 1024) : storeOf n < 1024 := by unfold storeOf; omega

/-- The stores of the first loop nest, one by one. -/
theorem mem_pieces (R : Nat → FVec Ideal S256x512 .f32) (N : Nat) (p) : p ∈ pieces R N ↔ ∃ k < N, p = piece R k := by
  induction N with
  | zero => simp [pieces]
  | succ N ih =>
    simp only [pieces, List.mem_cons, ih]
    constructor
    · rintro (h | ⟨k, hk, h⟩)
      · exact ⟨N, by omega, h⟩
      · exact ⟨k, by omega, h⟩
    · rintro ⟨k, hk, h⟩
      rcases Nat.lt_succ_iff_lt_or_eq.mp hk with h' | h'
      · exact Or.inr ⟨k, h', h⟩
      · subst h'; exact Or.inl h

/-- The stores of the codes, one by one. -/
theorem mem_codePieces (inv : FVec Ideal S8x128 .f32) (L : Nat → FVec Ideal S128x128 .f32) (N : Nat) (p) :
    p ∈ codePieces inv L N ↔ ∃ k < N, p = codePiece inv L k := by
  induction N with
  | zero => simp [codePieces]
  | succ N ih =>
    simp only [codePieces, List.mem_cons, ih]
    constructor
    · rintro (h | ⟨k, hk, h⟩)
      · exact ⟨N, by omega, h⟩
      · exact ⟨k, by omega, h⟩
    · rintro ⟨k, hk, h⟩
      rcases Nat.lt_succ_iff_lt_or_eq.mp hk with h' | h'
      · exact Or.inr ⟨k, h', h⟩
      · subst h'; exact Or.inl h

/-- A tile of the product, read at an index. -/
theorem tile_apply (R : FVec Ideal S256x512 .f32) (n : Nat) (a : Fin 8) (l : Fin 128) :
    tile R n (ix2 a l) = R (ix2 ⟨8 * (n % 128 / 4) + a, by omega⟩ ⟨128 * (n % 4) + l, by omega⟩) := by
  unfold tile extractStridedSlice
  refine congrArg R (eq2 _ ?_ ?_)
  · rfl
  · rfl

/-- The value a store of the first loop nest writes, read at an index. -/
theorem piece_apply (R : Nat → FVec Ideal S256x512 .f32) (n : Nat) (a : Fin 8) (l : Fin 128) :
    (piece R n).2 (ix2 a l) = tile (R (n / 128 % 8)) n (ix2 a l) := by
  show shapeCast S8x128 (tile (R (n / 128 % 8)) n) shapeCasts_S8x128_S8x128 (ix2 a l) = _
  generalize tile (R (n / 128 % 8)) n = T
  pointwise

/-- The product of two widened blocks, read at an index. -/
theorem pay3_apply (v0 : Vec Ideal S1x256x1536 .i8) (v3 : Vec Ideal S1x256x1536 .f32) (v8 : Vec Ideal S1536x512 .i8) (v11 : Vec Ideal S1536x512 .f32)
    (r : Fin 256) (u : Fin 512) :
    k1_pay3 v0 v3 v8 v11 (ix2 r u) = ∑ s, (FloatOps.sitofp (F := Ideal) .bf16 (v0 (ix3 0 r s)) * v3 (ix3 0 r s)) * (FloatOps.sitofp (F := Ideal) .bf16 (v8 (ix2 s u)) * v11 (ix2 s u)) := by
  pointwise [k1_pay3, k1_pay2]

variable (c : Dev nD) (i : grid1.Coords) (arg2 : Memref sig .tc .vmem S1x256x1536 .i8) (harg2 : arg2.IsWhole) (arg3 : Memref sig .tc .vmem S1x256x1536 .f32) (harg3 : arg3.IsWhole) (arg4 : Memref sig .tc .vmem S1536x4096 .i8) (harg4 : arg4.IsWhole) (arg5 : Memref sig .tc .vmem S1536x4096 .f32) (harg5 : arg5.IsWhole) (arg6 : Memref sig .tc .vmem S8x128 .f32) (harg6 : arg6.IsWhole) (arg7 : Memref sig .tc .vmem S8x128x128 .bf16) (harg7 : arg7.IsWhole) (arg8 : Memref sig .tc .vmem S128x1024 .fp8e4m3) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S8x128 .f32) (harg13 : arg13.IsWhole) (arg14 : Memref sig .tc .vmem S8x128x128 .bf16) (harg14 : arg14.IsWhole) (arg15 : Memref sig .tc .vmem S8x8x128 .f32) (harg15 : arg15.IsWhole) (arg16 : Memref sig .tc .vmem S8x128x1024 .fp8e4m3) (harg16 : arg16.IsWhole) (arg17 : Memref sig .tc .vmem S8x128 .f32) (harg17 : arg17.IsWhole) (arg18 : Memref sig .tc .vmem S9216x128 .f32) (harg18 : arg18.IsWhole)
    (x0 : Vec Ideal S1x256x1536 .i8) (x1 : Vec Ideal S1x256x1536 .f32) (x2 : Vec Ideal S1536x4096 .i8) (x3 : Vec Ideal S1536x4096 .f32) (x4 : Vec Ideal S8x128 .f32) (x5 : Vec Ideal S8x128x128 .bf16) (x6 : Vec Ideal S128x1024 .fp8e4m3) (x7 : Vec Ideal S128x128 .f32) (x8 : Vec Ideal S128x128 .f32) (x9 : Vec Ideal S128x128 .f32) (x10 : Vec Ideal S128x128 .f32) (x11 : Vec Ideal S8x128 .f32)

/-- The product of the loaded blocks, read at an index. -/
theorem prodBlk_apply (k : Nat) (r : Fin 256) (u : Fin 512) :
    prodBlk arg2 harg2 arg3 harg3 arg4 harg4 arg5 harg5 x0 x1 x2 x3 k (ix2 r u)
      = ∑ s, A x0 x1 r s * B x2 x3 (512 * (k % 8) + u) s := by
  unfold prodBlk
  rw [pay3_apply]
  simp only [View.readAt_eq_ld, Memref.IsWhole.read_unread]
  refine Finset.sum_congr rfl fun s _ => ?_
  have h0 : (Rect.unit (s := S1x256x1536) ![0, 0, 0] S1x256x1536.size inb_S1x256x1536_S1x256x1536_0_0_0).idx (ix3 0 r s) = ix3 0 (Fin.ofNat 256 r) s := by
    refine eq3 _ ?_ ?_ ?_
    · rfl
    · show 0 + 1 * r.val = r.val % 256
      omega
    · show 0 + 1 * s.val = s.val
      omega
  have h1 : (Rect.unit (s := S1536x4096) ![0, 512 * (k % 8)] S1536x512.size (col_inb k)).idx (ix2 s u) = ix2 s (Fin.ofNat 4096 (512 * (k % 8) + u)) := by
    refine eq2 _ ?_ ?_
    · show 0 + 1 * s.val = s.val
      omega
    · show 512 * (k % 8) + 1 * u.val = (512 * (k % 8) + u.val) % 4096
      omega
  unfold A B
  rw [← h0, ← h1]

/-- A tile of the product of the loaded blocks is the sum over the sequences of its channel. -/
theorem tile_prod (n : Nat) (a : Fin 8) (l : Fin 128) :
    tile (prodBlk arg2 harg2 arg3 harg3 arg4 harg4 arg5 harg5 x0 x1 x2 x3 (n / 128 % 8)) n (ix2 a l) = O x0 x1 x2 x3 a l (chan n) := by
  rw [tile_apply, prodBlk_apply]
  unfold O
  have e1 : 8 * (chan n / 32) + a.val = 8 * (n % 128 / 4) + a.val := by unfold chan; omega
  have e2 : 128 * (chan n % 32) + l.val = 512 * (n / 128 % 8 % 8) + (128 * (n % 4) + l.val) := by unfold chan; omega
  rw [e1, e2]

/-- A strided load of the scratch holds 128 channels of one row. -/
theorem strided_apply (n : Nat) (r l : Fin 128) :
    strided arg18 (pieces (prodBlk arg2 harg2 arg3 harg3 arg4 harg4 arg5 harg5 x0 x1 x2 x3) 1024) n (ix2 r l)
      = O x0 x1 x2 x3 (n / 8 % 8) l (128 * (n % 8) + r) := by
  unfold strided
  rw [View.readCov_eq_canon']
  have hr := r.isLt
  have hq : n % 8 < 8 := by omega
  have hi : n / 8 % 8 < 8 := by omega
  beta_reduce
  rw [View.canon_apply_of_pieces (fun y : S9216x128.Idx => O x0 x1 x2 x3 ((y 0).val % 9) (y 1).val ((y 0).val / 9))]
  · show O x0 x1 x2 x3 ((9 * 128 * (n % 8) + n / 8 % 8 + 9 * r.val) % 9) (0 + 1 * l.val) ((9 * 128 * (n % 8) + n / 8 % 8 + 9 * r.val) / 9) = _
    congr 1 <;> omega
  · intro p hp x
    obtain ⟨k, hk, rfl⟩ := (mem_pieces _ _ _).1 hp
    obtain ⟨a, b, rfl⟩ : ∃ a : Fin 8, ∃ b : Fin 128, x = ix2 a b := ⟨x 0, x 1, eq_ix2 x⟩
    rw [piece_apply, tile_prod]
    show _ = O x0 x1 x2 x3 ((tileRow k + 1 * a.val) % 9) (0 + 1 * b.val) ((tileRow k + 1 * a.val) / 9)
    have : tileRow k = 9 * chan k := rfl
    rw [this]
    congr 1 <;> omega
  · have hn : 128 * (n % 8) + r.val < 1024 := by omega
    refine ⟨piece _ (storeOf (128 * (n % 8) + r.val)), (mem_pieces _ _ _).2 ⟨_, storeOf_lt _ hn, rfl⟩, ?_⟩
    show _ ∈ (Rect.unit (s := S9216x128) ![tileRow (storeOf (128 * (n % 8) + r.val)), 0] S8x128.size (tile_inb _)).set
    rw [Rect.mem_set_unit]
    have : tileRow (storeOf (128 * (n % 8) + r.val)) = 9 * (128 * (n % 8) + r.val) := congrArg (9 * ·) (chan_storeOf _ hn)
    intro ax
    match ax with
    | ⟨0, _⟩ =>
      show tileRow (storeOf (128 * (n % 8) + r.val)) ≤ 9 * 128 * (n % 8) + n / 8 % 8 + 9 * r.val ∧ 9 * 128 * (n % 8) + n / 8 % 8 + 9 * r.val < tileRow (storeOf (128 * (n % 8) + r.val)) + 8
      omega
    | ⟨1, _⟩ =>
      show 0 ≤ 0 + 1 * l.val ∧ 0 + 1 * l.val < 0 + 128
      omega

/-- The running maximum after some tiles is the supremum of their absolute values. -/
theorem omaxFold_apply (N : Nat) (a : Fin 8) (l : Fin 128) :
    omaxFold (prodBlk arg2 harg2 arg3 harg3 arg4 harg4 arg5 harg5 x0 x1 x2 x3) N (ix2 a l)
      = max 0 ((Finset.range N).sup fun n => max (O x0 x1 x2 x3 a l (chan n)) (-(O x0 x1 x2 x3 a l (chan n)))) := by
  induction N with
  | zero =>
    show Scalar.ofBits (F := Ideal) .f32 0x00000000#32 = _
    simp
  | succ N ih =>
    rw [Finset.range_add_one, Finset.sup_insert]
    show max (omaxFold _ N (ix2 a l)) (max (tile _ N (ix2 a l)) (-(tile _ N (ix2 a l)))) = max 0 (max _ _)
    rw [ih, tile_prod, max_assoc]
    congr 1
    exact max_comm _ _

/-- The channels run through all the stores. -/
theorem sup_chan (f : Nat → EReal) : ((Finset.range 1024).sup fun n => f (chan n)) = Finset.univ.sup fun n : Fin 1024 => f n := by
  refine le_antisymm (Finset.sup_le fun n hn => ?_) (Finset.sup_le fun n _ => ?_)
  · exact Finset.le_sup (f := fun n : Fin 1024 => f n) (Finset.mem_univ ⟨chan n, chan_lt n⟩)
  · have := Finset.le_sup (f := fun n => f (chan n)) (Finset.mem_range.2 (storeOf_lt n n.isLt))
    rwa [chan_storeOf n n.isLt] at this

/-- An absolute value is not negative. -/
theorem abs_nonneg' (x : EReal) : 0 ≤ max x (-x) := by
  rcases le_total 0 x with h | h
  · exact le_max_of_le_left h
  · exact le_max_of_le_right (EReal.neg_nonneg.2 h)

/-- The largest absolute value over all channels. -/
def amaxO (x0 : Vec Ideal S1x256x1536 .i8) (x1 : Vec Ideal S1x256x1536 .f32) (x2 : Vec Ideal S1536x4096 .i8) (x3 : Vec Ideal S1536x4096 .f32)
    (i l : Nat) : EReal :=
  Finset.univ.sup fun n : Fin 1024 => max (O x0 x1 x2 x3 i l n) (-(O x0 x1 x2 x3 i l n))

/-- After all tiles it is the supremum over the channels. -/
theorem omax_eq (a : Fin 8) (l : Fin 128) :
    omaxFold (prodBlk arg2 harg2 arg3 harg3 arg4 harg4 arg5 harg5 x0 x1 x2 x3) 1024 (ix2 a l) = amaxO x0 x1 x2 x3 a l := by
  rw [omaxFold_apply]
  unfold amaxO
  generalize O x0 x1 x2 x3 a l = o
  rw [sup_chan (fun n => max (o n) (-(o n)))]
  refine max_eq_right (le_trans (abs_nonneg' (o (0 : Fin 1024))) ?_)
  exact Finset.le_sup (f := fun n : Fin 1024 => max (o n) (-(o n))) (Finset.mem_univ 0)

/-- The scale from the largest value and the count. -/
def scaleS (am cnt : EReal) : EReal :=
  if Ideal.div am cnt = 0 then 1 else Ideal.div (Ideal.div am cnt) (Ideal.ofBits .f32 0x43E00000#32)

/-- Clipping to the range of the codes. -/
def clipS (x : EReal) : EReal := min (Ideal.ofBits .f32 0x43E00000#32) (max (Ideal.ofBits .f32 0xC3E00000#32) x)

/-- The scale of a pair, read at an index. -/
theorem scaleOf_apply (o cnt : FVec Ideal S8x128 .f32) (a : Fin 8) (l : Fin 128) :
    scaleOf o cnt (ix2 a l) = scaleS (o (ix2 a l)) (cnt (ix2 a l)) := by
  pointwise [scaleOf]
  rfl

/-- The multiplier of a pair, read at an index. -/
theorem invOf_apply (o cnt : FVec Ideal S8x128 .f32) (a : Fin 8) (l : Fin 128) :
    invOf o cnt (ix2 a l) = Ideal.div 1 (o (ix2 a l) * cnt (ix2 a l)) := by
  pointwise [invOf]

/-- The codes of a tile, read at an index. -/
theorem codeVal_apply (inv : FVec Ideal S8x128 .f32) (i : Nat) (t : FVec Ideal S128x128 .f32) (z : Fin 1) (l r : Fin 128) :
    codeVal inv i t (ix3 z l r) = clipS (t (ix2 r l) * inv (ix2 ⟨i % 8, Nat.mod_lt _ (by decide)⟩ l)) := by
  pointwise [codeVal]
  rfl

/-- A row of updated pairs, read at an index. -/
theorem zRow_apply (scale : FVec Ideal S8x128 .f32) (wo : Vec Ideal S128x1024 .fp8e4m3) (oc : Vec Ideal S1x128x1024 .fp8e4m3) (z : Vec Ideal S1x128x128 .bf16)
    (wos bo : Vec Ideal S128x128 .f32) (i : Nat) (e l : Fin 128) : zRow scale wo oc z wos bo i (ix2 e l)
      = z (ix3 0 l e) + ((∑ x, wo (ix2 e x) * oc (ix3 0 l x)) * scale (ix2 ⟨i % 8, Nat.mod_lt _ (by decide)⟩ l) * wos (ix2 e l) + bo (ix2 e l)) := by
  pointwise [zRow]

/-- The row of updated pairs as stored, read at an index. -/
theorem zOut_apply (z : FVec Ideal S128x128 .f32) (a : Fin 1) (l e : Fin 128) : zOut z (ix3 a l e) = z (ix2 e l) := by
  pointwise [zOut]

/-- The mean over the channels of a pair. -/
def meanS (z : Fin 128 → EReal) : EReal := Ideal.div (∑ x, z x) (Ideal.ofBits .f32 0x43000000#32)

/-- The variance over the channels of a pair. -/
def varS (z : Fin 128 → EReal) : EReal := meanS fun x => (z x - meanS z) * (z x - meanS z)

/-- The logit of a pair: layer norm, gain, bias and the projection, with the reciprocal square root. -/
def pbS (z g be w : Fin 128 → EReal) : EReal :=
  ∑ x, w x * ((z x - meanS z) * Ideal.rsqrt (varS z + Ideal.ofBits .f32 0x3727C5AC#32) * g x + be x)

/-- The logits of a row, read at an index. -/
theorem pb_apply (z g be : FVec Ideal S128x128 .f32) (w : FVec Ideal S8x128 .f32) (h : Fin 8) (a : Fin 1) (l : Fin 128) :
    k1_pay1 z g be w (ix3 h a l) = pbS (fun x => z (ix2 x l)) (fun x => g (ix2 x l)) (fun x => be (ix2 x l)) (fun x => w (ix2 h x)) := by
  pointwise [k1_pay1]
  rfl

/-- A load of the whole array is the array. -/
theorem ld_whole2 {m n : Nat} {e : EltTy} (X : Shape.Idx ⟨2, ![m, n]⟩ → Elt Ideal e) (inb) (i : Fin m) (j : Fin n) :
    View.ld X (Rect.unit (s := ⟨2, ![m, n]⟩) ![0, 0] ![m, n] inb) (ix2 i j) = X (ix2 i j) := by
  refine congrArg X (eq2 _ ?_ ?_)
  · show 0 + 1 * i.val = i.val
    omega
  · show 0 + 1 * j.val = j.val
    omega

/-- The scale of row `i`, position `l` of a block. -/
def scaleB (x0 : Vec Ideal S1x256x1536 .i8) (x1 : Vec Ideal S1x256x1536 .f32) (x2 : Vec Ideal S1536x4096 .i8) (x3 : Vec Ideal S1536x4096 .f32)
    (x4 : Vec Ideal S8x128 .f32) (i : Fin 8) (l : Fin 128) : EReal :=
  scaleS (amaxO x0 x1 x2 x3 i l) (x4 (ix2 i l))

/-- The code of row `i`, position `l`, channel `n` of a block. -/
def codeB (x0 : Vec Ideal S1x256x1536 .i8) (x1 : Vec Ideal S1x256x1536 .f32) (x2 : Vec Ideal S1536x4096 .i8) (x3 : Vec Ideal S1536x4096 .f32)
    (x4 : Vec Ideal S8x128 .f32) (i : Fin 8) (l : Fin 128) (n : Nat) : EReal :=
  clipS (O x0 x1 x2 x3 i l n * Ideal.div 1 (scaleB x0 x1 x2 x3 x4 i l * x4 (ix2 i l)))

/-- The updated pair of row `i`, position `l`, channel `e` of a block. -/
def zB (x0 : Vec Ideal S1x256x1536 .i8) (x1 : Vec Ideal S1x256x1536 .f32) (x2 : Vec Ideal S1536x4096 .i8) (x3 : Vec Ideal S1536x4096 .f32)
    (x4 : Vec Ideal S8x128 .f32) (x5 : Vec Ideal S8x128x128 .bf16) (x6 : Vec Ideal S128x1024 .fp8e4m3) (x7 x8 : Vec Ideal S128x128 .f32)
    (i : Fin 8) (l e : Fin 128) : EReal :=
  x5 (ix3 i l e) + ((∑ n : Fin 1024, x6 (ix2 e n) * codeB x0 x1 x2 x3 x4 i l n) * scaleB x0 x1 x2 x3 x4 i l * x7 (ix2 e l) + x8 (ix2 e l))

/-- The scale block of the body, read at an index. -/
theorem scaleBlk_apply (a : Fin 8) (l : Fin 128) :
    scaleBlk arg2 harg2 arg3 harg3 arg4 harg4 arg5 harg5 arg6 harg6 x0 x1 x2 x3 x4 (ix2 a l) = scaleB x0 x1 x2 x3 x4 a l := by
  unfold scaleBlk scaleB
  rw [scaleOf_apply, omax_eq, View.readAt_eq_ld, Memref.IsWhole.read_unread]
  exact congrArg _ ((congrFun (shapeCast_self (s := S8x128) _ shapeCasts_S8x128_S8x128) (ix2 a l)).trans (ld_whole2 x4 _ a l))

/-- The multiplier block of the body, read at an index. -/
theorem invBlk_apply (a : Fin 8) (l : Fin 128) :
    invBlk arg2 harg2 arg3 harg3 arg4 harg4 arg5 harg5 arg6 harg6 x0 x1 x2 x3 x4 (ix2 a l)
      = Ideal.div 1 (scaleB x0 x1 x2 x3 x4 a l * x4 (ix2 a l)) := by
  unfold invBlk
  rw [invOf_apply, scaleBlk_apply, View.readAt_eq_ld, Memref.IsWhole.read_unread]
  exact congrArg (fun y => Ideal.div 1 (_ * y)) ((congrFun (shapeCast_self (s := S8x128) _ shapeCasts_S8x128_S8x128) (ix2 a l)).trans (ld_whole2 x4 _ a l))

/-- The code stores leave the codes. -/
theorem codes_apply (i : Fin 8) (l : Fin 128) (n : Fin 1024) :
    View.canon (codeStores arg2 harg2 arg3 harg3 arg4 harg4 arg5 harg5 arg6 harg6 arg18 x0 x1 x2 x3 x4) (ix3 i l n)
      = codeB x0 x1 x2 x3 x4 i l n := by
  have hi := i.isLt
  have hl := l.isLt
  have hn := n.isLt
  unfold codeStores
  rw [View.canon_apply_of_pieces (fun y : S8x128x1024.Idx => codeB x0 x1 x2 x3 x4 (y 0) (y 1) (y 2).val)]
  · rfl
  · intro p hp x
    obtain ⟨k, hk, rfl⟩ := (mem_codePieces _ _ _ _).1 hp
    obtain ⟨z, a, b, rfl⟩ : ∃ z : Fin 1, ∃ a : Fin 128, ∃ b : Fin 128, x = ix3 z a b := ⟨x 0, x 1, x 2, eq_ix3 x⟩
    have hz := z.isLt
    show codeVal _ (k / 8) _ (ix3 z a b) = _
    rw [codeVal_apply, strided_apply, invBlk_apply]
    have e0 : ((Rect.unit (s := S8x128x1024) ![k / 8 % 8, 0, 128 * (k % 8)] S1x128x128.size (code_inb k)).idx (ix3 z a b))
        = ix3 ⟨k / 8 % 8, by omega⟩ a ⟨128 * (k % 8) + b, by omega⟩ := by
      refine eq3 _ ?_ ?_ ?_
      · show k / 8 % 8 + 1 * z.val = k / 8 % 8
        omega
      · show 0 + 1 * a.val = a.val
        omega
      · show 128 * (k % 8) + 1 * b.val = 128 * (k % 8) + b.val
        omega
    have e1 : (codePiece (invBlk arg2 harg2 arg3 harg3 arg4 harg4 arg5 harg5 arg6 harg6 x0 x1 x2 x3 x4)
        (strided arg18 (pieces (prodBlk arg2 harg2 arg3 harg3 arg4 harg4 arg5 harg5 x0 x1 x2 x3) 1024)) k).1.emb (ix3 z a b)
        = ix3 ⟨k / 8 % 8, by omega⟩ a ⟨128 * (k % 8) + b, by omega⟩ := e0
    rw [e1]
    rfl
  · refine ⟨codePiece _ _ (8 * i.val + n.val / 128), (mem_codePieces _ _ _ _).2 ⟨_, by omega, rfl⟩, ?_⟩
    show _ ∈ (Rect.unit (s := S8x128x1024) ![(8 * i.val + n.val / 128) / 8 % 8, 0, 128 * ((8 * i.val + n.val / 128) % 8)] S1x128x128.size (code_inb _)).set
    rw [Rect.mem_set_unit]
    intro ax
    match ax with
    | ⟨0, _⟩ =>
      show (8 * i.val + n.val / 128) / 8 % 8 ≤ i.val ∧ i.val < (8 * i.val + n.val / 128) / 8 % 8 + 1
      omega
    | ⟨1, _⟩ =>
      show 0 ≤ l.val ∧ l.val < 0 + 128
      omega
    | ⟨2, _⟩ =>
      show 128 * ((8 * i.val + n.val / 128) % 8) ≤ n.val ∧ n.val < 128 * ((8 * i.val + n.val / 128) % 8) + 128
      omega

/-- A row of updated pairs of the body, read at an index. -/
theorem zBlk_apply (i : Nat) (e l : Fin 128) :
    zBlk arg2 harg2 arg3 harg3 arg4 harg4 arg5 harg5 arg6 harg6 arg7 harg7 arg8 harg8 arg9 harg9 arg10 harg10 arg16 arg18 x0 x1 x2 x3 x4 x5 x6 x7 x8 i (ix2 e l)
      = zB x0 x1 x2 x3 x4 x5 x6 x7 x8 ⟨i % 8, Nat.mod_lt _ (by decide)⟩ l e := by
  unfold zBlk
  rw [zRow_apply, scaleBlk_apply]
  simp only [View.readAt_eq_ld, Memref.IsWhole.read_unread, View.readCov_eq_canon']
  have h5 : (Rect.unit (s := S8x128x128) ![i % 8, 0, 0] S1x128x128.size (rowz_inb i)).idx (ix3 0 l e) = ix3 ⟨i % 8, Nat.mod_lt _ (by decide)⟩ l e := by
    refine eq3 _ ?_ ?_ ?_
    · rfl
    · show 0 + 1 * l.val = l.val
      omega
    · show 0 + 1 * e.val = e.val
      omega
  have hc : ∀ n : Fin 1024, (Rect.unit (s := S8x128x1024) ![i % 8, 0, 0] S1x128x1024.size (rowc_inb i)).idx (ix3 0 l n) = ix3 ⟨i % 8, Nat.mod_lt _ (by decide)⟩ l n := by
    intro n
    refine eq3 _ ?_ ?_ ?_
    · rfl
    · show 0 + 1 * l.val = l.val
      omega
    · show 0 + 1 * n.val = n.val
      omega
  have hs : ∀ n : Fin 1024, View.canon (codeStores arg2 harg2 arg3 harg3 arg4 harg4 arg5 harg5 arg6 harg6 arg18 x0 x1 x2 x3 x4)
      ((Rect.unit (s := S8x128x1024) ![i % 8, 0, 0] S1x128x1024.size (rowc_inb i)).idx (ix3 0 l n))
      = codeB x0 x1 x2 x3 x4 ⟨i % 8, Nat.mod_lt _ (by decide)⟩ l n := by
    intro n
    rw [hc, codes_apply]
  unfold zB
  refine congrArg₂ (· + ·) (congrArg x5 h5) (congrArg₂ (· + ·) (congrArg₂ (· * ·) (congrArg₂ (· * ·) (Finset.sum_congr rfl fun n _ =>
    congrArg₂ (· * ·) (ld_whole2 x6 _ e n) (hs n)) rfl) (ld_whole2 x7 _ e l)) (ld_whole2 x8 _ e l))

/-- The stores of the updated pairs, one by one. -/
theorem mem_zPieces (Z : Nat → FVec Ideal S128x128 .f32) (N : Nat) (p) : p ∈ zPieces Z N ↔ ∃ k < N, p = zPiece Z k := by
  induction N with
  | zero => simp [zPieces]
  | succ N ih =>
    simp only [zPieces, List.mem_cons, ih]
    constructor
    · rintro (h | ⟨k, hk, h⟩)
      · exact ⟨N, by omega, h⟩
      · exact ⟨k, by omega, h⟩
    · rintro ⟨k, hk, h⟩
      rcases Nat.lt_succ_iff_lt_or_eq.mp hk with h' | h'
      · exact Or.inr ⟨k, h', h⟩
      · subst h'; exact Or.inl h

/-- The stores of the logits, one by one. -/
theorem mem_pbPieces (Z : Nat → FVec Ideal S128x128 .f32) (g be : Vec Ideal S128x128 .f32) (w : Vec Ideal S8x128 .f32) (N : Nat) (p) :
    p ∈ pbPieces Z g be w N ↔ ∃ k < N, p = pbPiece Z g be w k := by
  induction N with
  | zero => simp [pbPieces]
  | succ N ih =>
    simp only [pbPieces, List.mem_cons, ih]
    constructor
    · rintro (h | ⟨k, hk, h⟩)
      · exact ⟨N, by omega, h⟩
      · exact ⟨k, by omega, h⟩
    · rintro ⟨k, hk, h⟩
      rcases Nat.lt_succ_iff_lt_or_eq.mp hk with h' | h'
      · exact Or.inr ⟨k, h', h⟩
      · subst h'; exact Or.inl h

/-- The pair stores leave the updated pair rows. -/
theorem zPieces_apply (Z : Nat → FVec Ideal S128x128 .f32) (i : Fin 8) (l e : Fin 128) :
    View.canon (zPieces Z 8) (ix3 i l e) = Z i (ix2 e l) := by
  have hi := i.isLt
  have hl := l.isLt
  have he := e.isLt
  rw [View.canon_apply_of_pieces (fun y : S8x128x128.Idx => Z (y 0).val (ix2 (y 2) (y 1)))]
  · rfl
  · intro p hp x
    obtain ⟨k, hk, rfl⟩ := (mem_zPieces _ _ _).1 hp
    obtain ⟨z, a, b, rfl⟩ : ∃ z : Fin 1, ∃ a : Fin 128, ∃ b : Fin 128, x = ix3 z a b := ⟨x 0, x 1, x 2, eq_ix3 x⟩
    have hz := z.isLt
    show zOut (Z k) (ix3 z a b) = _
    rw [zOut_apply]
    have e1 : (zPiece Z k).1.emb (ix3 z a b) = (ix3 ⟨k, hk⟩ a b : S8x128x128.Idx) := by
      refine eq3 _ ?_ ?_ ?_
      · show k % 8 + 1 * z.val = k
        omega
      · show 0 + 1 * a.val = a.val
        omega
      · show 0 + 1 * b.val = b.val
        omega
    rw [e1]
    rfl
  · refine ⟨zPiece Z i, (mem_zPieces _ _ _).2 ⟨_, i.isLt, rfl⟩, ?_⟩
    show _ ∈ (Rect.unit (s := S8x128x128) ![i.val % 8, 0, 0] S1x128x128.size (rowz_inb _)).set
    rw [Rect.mem_set_unit]
    intro ax
    match ax with
    | ⟨0, _⟩ =>
      show i.val % 8 ≤ i.val ∧ i.val < i.val % 8 + 1
      omega
    | ⟨1, _⟩ =>
      show 0 ≤ l.val ∧ l.val < 0 + 128
      omega
    | ⟨2, _⟩ =>
      show 0 ≤ e.val ∧ e.val < 0 + 128
      omega

/-- The logit stores leave the logits. -/
theorem pbPieces_apply (Z : Nat → FVec Ideal S128x128 .f32) (g be : Vec Ideal S128x128 .f32) (w : Vec Ideal S8x128 .f32) (h i : Fin 8) (l : Fin 128) :
    View.canon (pbPieces Z g be w 8) (ix3 h i l)
      = pbS (fun x => Z i (ix2 x l)) (fun x => g (ix2 x l)) (fun x => be (ix2 x l)) (fun x => w (ix2 h x)) := by
  have hh := h.isLt
  have hi := i.isLt
  have hl := l.isLt
  rw [View.canon_apply_of_pieces (fun y : S8x8x128.Idx =>
    pbS (fun x => Z (y 1).val (ix2 x (y 2))) (fun x => g (ix2 x (y 2))) (fun x => be (ix2 x (y 2))) (fun x => w (ix2 (y 0) x)))]
  · rfl
  · intro p hp x
    obtain ⟨k, hk, rfl⟩ := (mem_pbPieces _ _ _ _ _ _).1 hp
    obtain ⟨a, z, b, rfl⟩ : ∃ a : Fin 8, ∃ z : Fin 1, ∃ b : Fin 128, x = ix3 a z b := ⟨x 0, x 1, x 2, eq_ix3 x⟩
    have hz := z.isLt
    show k1_pay1 (Z k) g be w (ix3 a z b) = _
    rw [pb_apply]
    have e1 : (pbPiece Z g be w k).1.emb (ix3 a z b) = (ix3 a ⟨k, hk⟩ b : S8x8x128.Idx) := by
      refine eq3 _ ?_ ?_ ?_
      · show 0 + 1 * a.val = a.val
        omega
      · show k % 8 + 1 * z.val = k
        omega
      · show 0 + 1 * b.val = b.val
        omega
    rw [e1]
    rfl
  · refine ⟨pbPiece Z g be w i, (mem_pbPieces _ _ _ _ _ _).2 ⟨_, i.isLt, rfl⟩, ?_⟩
    show _ ∈ (Rect.unit (s := S8x8x128) ![0, i.val % 8, 0] S8x1x128.size (rowp_inb _)).set
    rw [Rect.mem_set_unit]
    intro ax
    match ax with
    | ⟨0, _⟩ =>
      show 0 ≤ h.val ∧ h.val < 0 + 8
      omega
    | ⟨1, _⟩ =>
      show i.val % 8 ≤ i.val ∧ i.val < i.val % 8 + 1
      omega
    | ⟨2, _⟩ =>
      show 0 ≤ l.val ∧ l.val < 0 + 128
      omega

end Cert.KernelIdeal.Val
-- ==== Proof.Run.lean ====
/- The run of the ideal kernel with its four results named. The program is two calls, so the run is that of the generated
   frame (the call of the counts, the host's layouts, the call of the outer product) with every buffer's last contents kept. -/
module

public import proofs.«01_k».proof.Proof.Gen.KernelIdeal.Frame

@[expose] public section

noncomputable section

namespace Cert.KernelIdeal.Val
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run ends with each array of the TensorCore at what the second call leaves in it. -/
theorem run_last : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ => h)

/-- Every run ends with the four results at what the second call's blocks leave in them and the arguments as they were. -/
theorem run_blocks : θ_run defs (onTc (τ := τ) (main (F := F))) ⟨m, fun _ => 0, ρ⟩ (fun r => ∀ c : Dev nD,
      r.2.mem ((c.tc : Thread nD τ).loc main_v27_0) = (dat1 (V2 m ρ) c).arrAt 12 cfg1.N
      ∧ r.2.mem ((c.tc : Thread nD τ).loc main_v27_1) = (dat1 (V2 m ρ) c).arrAt 13 cfg1.N
      ∧ r.2.mem ((c.tc : Thread nD τ).loc main_v27_2) = (dat1 (V2 m ρ) c).arrAt 14 cfg1.N
      ∧ r.2.mem ((c.tc : Thread nD τ).loc main_v27_3) = (dat1 (V2 m ρ) c).arrAt 15 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c _ (mem_uc main_v27_0 (by decide))).trans (W3_arr m ρ c 12),
    (h c _ (mem_uc main_v27_1 (by decide))).trans (W3_arr m ρ c 13),
    (h c _ (mem_uc main_v27_2 (by decide))).trans (W3_arr m ρ c 14),
    (h c _ (mem_uc main_v27_3 (by decide))).trans (W3_arr m ρ c 15),
    (h c _ (mem_uc main_arg0 (by decide))).trans (W3_main_arg0 m ρ c),
    (h c _ (mem_uc main_arg1 (by decide))).trans (W3_main_arg1 m ρ c),
    (h c _ (mem_uc main_arg2 (by decide))).trans (W3_main_arg2 m ρ c),
    (h c _ (mem_uc main_arg3 (by decide))).trans (W3_main_arg3 m ρ c),
    (h c _ (mem_uc main_arg4 (by decide))).trans (W3_main_arg4 m ρ c),
    (h c _ (mem_uc main_arg5 (by decide))).trans (W3_main_arg5 m ρ c),
    (h c _ (mem_uc main_arg6 (by decide))).trans (W3_main_arg6 m ρ c),
    (h c _ (mem_uc main_arg7 (by decide))).trans (W3_main_arg7 m ρ c),
    (h c _ (mem_uc main_arg8 (by decide))).trans (W3_main_arg8 m ρ c),
    (h c _ (mem_uc main_arg9 (by decide))).trans (W3_main_arg9 m ρ c),
    (h c _ (mem_uc main_arg10 (by decide))).trans (W3_main_arg10 m ρ c),
    (h c _ (mem_uc main_arg11 (by decide))).trans (W3_main_arg11 m ρ c)⟩) (run_last m ρ)

end Cert.KernelIdeal.Val

end
-- ==== Proof.Counts.lean ====
/- The call of the counts: what it leaves is the product of the mask with itself over the sequences, plus a constant, and
   that is what the call of the outer product finds. -/
module

public import proofs.«01_k».proof.Proof.Read
public import proofs.«01_k».proof.Proof.Run
public import Idealize.ShloMosaic.Lib.Pipeline.ValueKit

@[expose] public section

noncomputable section

namespace Cert.KernelIdeal.Val
open Cert.KernelIdeal Cert.KernelIdeal.Gen Idealize.ShloMosaic Idealize.ShloMosaic.TcCoe Idealize.ShloMosaic.Pointwise
open scoped BigOperators

/-! ## Loads and stores of whole arrays -/

/-- A load of a whole array of one axis is the array. -/
theorem ld1 {n : Nat} {e : EltTy} (X : Shape.Idx ⟨1, ![n]⟩ → Elt Ideal e) (inb) :
    View.ld X (Rect.unit (s := ⟨1, ![n]⟩) ![0] ![n] inb) = X := by
  funext y
  refine congrArg X ?_
  funext a
  match a with
  | 0 => exact Fin.ext (by show 0 + 1 * (y 0).val = (y 0).val; omega)

/-- A load of a whole array of two axes is the array. -/
theorem ld2 {m n : Nat} {e : EltTy} (X : Shape.Idx ⟨2, ![m, n]⟩ → Elt Ideal e) (inb) :
    View.ld X (Rect.unit (s := ⟨2, ![m, n]⟩) ![0, 0] ![m, n] inb) = X := by
  funext y
  refine congrArg X ?_
  funext a
  match a with
  | 0 => exact Fin.ext (by show 0 + 1 * (y 0).val = (y 0).val; omega)
  | 1 => exact Fin.ext (by show 0 + 1 * (y 1).val = (y 1).val; omega)

/-- A load of a whole array of three axes is the array. -/
theorem ld3 {m n p : Nat} {e : EltTy} (X : Shape.Idx ⟨3, ![m, n, p]⟩ → Elt Ideal e) (inb) :
    View.ld X (Rect.unit (s := ⟨3, ![m, n, p]⟩) ![0, 0, 0] ![m, n, p] inb) = X := by
  funext y
  refine congrArg X ?_
  funext a
  match a with
  | 0 => exact Fin.ext (by show 0 + 1 * (y 0).val = (y 0).val; omega)
  | 1 => exact Fin.ext (by show 0 + 1 * (y 1).val = (y 1).val; omega)
  | 2 => exact Fin.ext (by show 0 + 1 * (y 2).val = (y 2).val; omega)

/-- One store of the whole array leaves what it stores. -/
theorem canon3 {m n p : Nat} {e : EltTy} (X : Shape.Idx ⟨3, ![m, n, p]⟩ → Elt Ideal e) (inb) (y : Shape.Idx ⟨3, ![m, n, p]⟩) :
    View.canon [(⟨Rect.unit (s := ⟨3, ![m, n, p]⟩) ![0, 0, 0] ![m, n, p] inb, X⟩ : View.Piece (Elt Ideal) ⟨3, ![m, n, p]⟩ e)] y = X y := by
  rw [View.canon_apply_of_pieces X]
  · intro q hq x
    obtain rfl := List.mem_singleton.1 hq
    exact (congrFun (ld3 X inb) x).symm
  · refine ⟨_, List.mem_singleton.2 rfl, ?_⟩
    rw [Rect.mem_set_unit]
    intro d
    have := (y d).isLt
    match d with
    | 0 => exact ⟨Nat.zero_le _, by simpa using this⟩
    | 1 => exact ⟨Nat.zero_le _, by simpa using this⟩
    | 2 => exact ⟨Nat.zero_le _, by simpa using this⟩

/-- One store of a whole array of two axes leaves the stored value. -/
theorem canon2 {m n : Nat} {e : EltTy} (X : Shape.Idx ⟨2, ![m, n]⟩ → Elt Ideal e) (inb) (y : Shape.Idx ⟨2, ![m, n]⟩) :
    View.canon [(⟨Rect.unit (s := ⟨2, ![m, n]⟩) ![0, 0] ![m, n] inb, X⟩ : View.Piece (Elt Ideal) ⟨2, ![m, n]⟩ e)] y = X y := by
  rw [View.canon_apply_of_pieces X]
  · intro q hq x
    obtain rfl := List.mem_singleton.1 hq
    exact (congrFun (ld2 X inb) x).symm
  · refine ⟨_, List.mem_singleton.2 rfl, ?_⟩
    rw [Rect.mem_set_unit]
    intro d
    have := (y d).isLt
    match d with
    | 0 => exact ⟨Nat.zero_le _, by simpa using this⟩
    | 1 => exact ⟨Nat.zero_le _, by simpa using this⟩

/-! ## The counts -/

/-- How many sequences show both residues of a pair: the mask's product with itself over the sequences, plus a constant. -/
def counts (k : S1536x384.Idx → EReal) : S384x384.Idx → EReal := fun y =>
  (∑ s : Fin 1536, k (ix2 s (y 0)) * k (ix2 s (y 1))) + Ideal.ofBits .f32 0x3A83126F#32

/-- The value the call computes, at a pair. -/
theorem pay_counts (k : Vec Ideal S1536x384 .f32) (i j : Fin 384) : k0_pay1 k (ix2 i j) = counts k (ix2 i j) := by
  show _ = (∑ s : Fin 1536, k (ix2 s i) * k (ix2 s j)) + Ideal.ofBits .f32 0x3A83126F#32
  pointwise [k0_pay1]

/-- The block the call leaves, at a pair. -/
theorem out_counts (k : Vec Ideal S1536x384 .f32) (i j : Fin 384) : out0_1 k (ix2 i j) = counts k (ix2 i j) := by
  unfold out0_1
  rw [canon2, ld2 k, pay_counts]

section Final
variable (m : (ℓ : Loc nD τ sig) → Buf (Elt Ideal) ℓ) (ρ : Dev nD → PrngReg) (c : Dev nD) (t : Fin cfg0.N)

/-- The one block of the mask begins at the origin. -/
theorem c0 : ∀ t : Fin cfg0.N, win0_0.index t = ![0, 0] :=
  (by decide +kernel : ∀ t : Fin grid0.N, win0_0.index t = ![0, 0])
/-- The one block of the counts begins at the origin. -/
theorem c1 : ∀ t : Fin cfg0.N, win0_1.index t = ![0, 0] :=
  (by decide +kernel : ∀ t : Fin grid0.N, win0_1.index t = ![0, 0])

/-- The call's block of the mask is the whole mask. -/
theorem ib_mask : iblk0 (V0 m ρ) c 0 t = (m ((c : Thread nD τ).loc main_arg4) : S1536x384.Idx → Elt Ideal .f32) := by
  funext y
  blk_simp [iblk0]
  exact congrArg (m ((c : Thread nD τ).loc main_arg4)) (funext fun a => Fin.ext (by fin_cases a <;> blk_simp [c0]))

/-- What the call leaves in its result. -/
theorem final_counts : (dat0 (V0 m ρ) c).arrAt 1 cfg0.N = counts (m ((c : Thread nD τ).loc main_arg4)) := by
  refine (dat0 (V0 m ρ) c).arrAt_eq_of_covers 1 _ (by decide +kernel) fun t hf y => ?_
  blk_simp
  rw [after0_1, ib_mask]
  obtain ⟨i, j, rfl⟩ : ∃ (i j : Fin 384), y = ix2 i j := ⟨y 0, y 1, eq_ix2 y⟩
  rw [out_counts]
  have hh : ((win0_1.blk t).view.emb (ix2 i j : S384x384.Idx) : S384x384.Idx) = ix2 i j := by
    refine eq2 _ ?_ ?_ <;> blk_simp [c1] <;> simp
  exact (congrArg (counts (m ((c : Thread nD τ).loc main_arg4))) hh).symm

/-- The count array as the second call finds it. -/
theorem host0 : V2 m ρ c main_v0 = counts (m ((c : Thread nD τ).loc main_arg4)) :=
  (W2_of m ρ c main_v0 (by decide)).trans ((W1_arr m ρ c 1).trans (final_counts m ρ c))
end Final

end Cert.KernelIdeal.Val
-- ==== Proof.Host.lean ====
module

public import proofs.«01_k».proof.Proof.Counts
public import Idealize.ShloMosaic.Lib.Pipeline.ValueKit

@[expose] public section

noncomputable section

namespace Cert.KernelIdeal.Val
open Cert.KernelIdeal Cert.KernelIdeal.Gen Idealize.ShloMosaic Idealize.ShloMosaic.TcCoe Idealize.ShloMosaic.Pointwise Idealize.ShloMosaic.StableHlo
open scoped BigOperators

variable (m : (ℓ : Loc nD τ sig) → Buf (Elt Ideal) ℓ) (ρ : Dev nD → PrngReg) (c : Dev nD)

/-- The array the host makes of the codes of the left operand. -/
theorem host3 : V2 m ρ c main_v3 = shapeCast S48x256x1536 (transpose S48x32x8x1536 [1, 3, 2, 0] (shapeCast S1536x48x8x32 (m ((c : Thread nD τ).loc main_arg0) : S1536x384x32.Idx → Elt Ideal .i8) shapeCasts_S1536x384x32_S1536x48x8x32) transposes_S1536x48x8x32_S48x32x8x1536_1_3_2_0) shapeCasts_S48x32x8x1536_S48x256x1536 := by
  have e := W1_args m ρ c main_arg0 (by decide)
  show StableHlo.after hostOps1 (W1 m ρ c) _ = _
  unfold hostOps1
  after_results
  rw [e]
  rfl

/-- That array of the codes of the left operand, read at an index. -/
theorem layA (X : S1536x384x32.Idx → Elt Ideal .i8) (i : Fin 48) (r : Fin 256) (s : Fin 1536) :
    shapeCast S48x256x1536 (transpose S48x32x8x1536 [1, 3, 2, 0] (shapeCast S1536x48x8x32 X shapeCasts_S1536x384x32_S1536x48x8x32) transposes_S1536x48x8x32_S48x32x8x1536_1_3_2_0) shapeCasts_S48x32x8x1536_S48x256x1536 (ix3 i r s) = X (ix3 s ⟨i * 8 + r % 8, by omega⟩ ⟨r / 8, by omega⟩) := by
  pointwise

/-- The array the host makes of the scales of the left operand. -/
theorem host8 : V2 m ρ c main_v8 = shapeCast S48x256x1536 (transpose S48x32x8x1536 [1, 3, 2, 0] (shapeCast S1536x48x8x32 (shapeCast S1536x384x32 (broadcastInDim S12x128x384x32 ![0, 2, 3] bcast_S12x384x32_S12x128x384x32_0_2_3 (m ((c : Thread nD τ).loc main_arg1) : S12x384x32.Idx → Elt Ideal .f32)) shapeCasts_S12x128x384x32_S1536x384x32) shapeCasts_S1536x384x32_S1536x48x8x32) transposes_S1536x48x8x32_S48x32x8x1536_1_3_2_0) shapeCasts_S48x32x8x1536_S48x256x1536 := by
  have e := W1_args m ρ c main_arg1 (by decide)
  show StableHlo.after hostOps1 (W1 m ρ c) _ = _
  unfold hostOps1
  after_results
  rw [e]
  rfl

/-- That array of the scales of the left operand, read at an index. -/
theorem layAs (X : S12x384x32.Idx → Elt Ideal .f32) (i : Fin 48) (r : Fin 256) (s : Fin 1536) :
    shapeCast S48x256x1536 (transpose S48x32x8x1536 [1, 3, 2, 0] (shapeCast S1536x48x8x32 (shapeCast S1536x384x32 (broadcastInDim S12x128x384x32 ![0, 2, 3] bcast_S12x384x32_S12x128x384x32_0_2_3 X) shapeCasts_S12x128x384x32_S1536x384x32) shapeCasts_S1536x384x32_S1536x48x8x32) transposes_S1536x48x8x32_S48x32x8x1536_1_3_2_0) shapeCasts_S48x32x8x1536_S48x256x1536 (ix3 i r s) = X (ix3 ⟨s / 128, by omega⟩ ⟨i * 8 + r % 8, by omega⟩ ⟨r / 8, by omega⟩) := by
  pointwise

/-- The array the host makes of the codes of the right operand. -/
theorem host11 : V2 m ρ c main_v11 = shapeCast S1536x12288 (transpose S1536x3x32x128 [0, 1, 3, 2] (shapeCast S1536x3x128x32 (m ((c : Thread nD τ).loc main_arg2) : S1536x384x32.Idx → Elt Ideal .i8) shapeCasts_S1536x384x32_S1536x3x128x32) transposes_S1536x3x128x32_S1536x3x32x128_0_1_3_2) shapeCasts_S1536x3x32x128_S1536x12288 := by
  have e := W1_args m ρ c main_arg2 (by decide)
  show StableHlo.after hostOps1 (W1 m ρ c) _ = _
  unfold hostOps1
  after_results
  rw [e]
  rfl

/-- That array of the codes of the right operand, read at an index. -/
theorem layB (X : S1536x384x32.Idx → Elt Ideal .i8) (s : Fin 1536) (u : Fin 12288) :
    shapeCast S1536x12288 (transpose S1536x3x32x128 [0, 1, 3, 2] (shapeCast S1536x3x128x32 X shapeCasts_S1536x384x32_S1536x3x128x32) transposes_S1536x3x128x32_S1536x3x32x128_0_1_3_2) shapeCasts_S1536x3x32x128_S1536x12288 (ix2 s u) = X (ix3 s ⟨u / 4096 * 128 + u % 128, by omega⟩ ⟨u / 128 % 32, by omega⟩) := by
  pointwise

/-- The array the host makes of the scales of the right operand. -/
theorem host16 : V2 m ρ c main_v16 = shapeCast S1536x12288 (transpose S1536x3x32x128 [0, 1, 3, 2] (shapeCast S1536x3x128x32 (shapeCast S1536x384x32 (broadcastInDim S12x128x384x32 ![0, 2, 3] bcast_S12x384x32_S12x128x384x32_0_2_3 (m ((c : Thread nD τ).loc main_arg3) : S12x384x32.Idx → Elt Ideal .f32)) shapeCasts_S12x128x384x32_S1536x384x32) shapeCasts_S1536x384x32_S1536x3x128x32) transposes_S1536x3x128x32_S1536x3x32x128_0_1_3_2) shapeCasts_S1536x3x32x128_S1536x12288 := by
  have e := W1_args m ρ c main_arg3 (by decide)
  show StableHlo.after hostOps1 (W1 m ρ c) _ = _
  unfold hostOps1
  after_results
  rw [e]
  rfl

/-- That array of the scales of the right operand, read at an index. -/
theorem layBs (X : S12x384x32.Idx → Elt Ideal .f32) (s : Fin 1536) (u : Fin 12288) :
    shapeCast S1536x12288 (transpose S1536x3x32x128 [0, 1, 3, 2] (shapeCast S1536x3x128x32 (shapeCast S1536x384x32 (broadcastInDim S12x128x384x32 ![0, 2, 3] bcast_S12x384x32_S12x128x384x32_0_2_3 X) shapeCasts_S12x128x384x32_S1536x384x32) shapeCasts_S1536x384x32_S1536x3x128x32) transposes_S1536x3x128x32_S1536x3x32x128_0_1_3_2) shapeCasts_S1536x3x32x128_S1536x12288 (ix2 s u) = X (ix3 ⟨s / 128, by omega⟩ ⟨u / 4096 * 128 + u % 128, by omega⟩ ⟨u / 128 % 32, by omega⟩) := by
  pointwise

/-- The array the host makes of the codes of the projection. -/
theorem host17 : V2 m ρ c main_v17 = transpose S128x1024 [1, 0] (m ((c : Thread nD τ).loc main_arg6) : S1024x128.Idx → Elt Ideal .fp8e4m3) transposes_S1024x128_S128x1024_1_0 := by
  have e := W1_args m ρ c main_arg6 (by decide)
  show StableHlo.after hostOps1 (W1 m ρ c) _ = _
  unfold hostOps1
  after_results
  rw [e]

/-- The array the host makes of the projection to the logits. -/
theorem host26 : V2 m ρ c main_v26 = transpose S8x128 [1, 0] (m ((c : Thread nD τ).loc main_arg11) : S128x8.Idx → Elt Ideal .f32) transposes_S128x8_S8x128_1_0 := by
  have e := W1_args m ρ c main_arg11 (by decide)
  show StableHlo.after hostOps1 (W1 m ρ c) _ = _
  unfold hostOps1
  after_results
  rw [e]

/-- A vector repeated along the lanes. -/
abbrev lanes (X : S128.Idx → Elt Ideal .f32) : S128x128.Idx → Elt Ideal .f32 :=
  broadcastInDim S128x128 ![0, 1] bcast_S128x1_S128x128_0_1 (broadcastInDim S128x1 ![0] bcast_S128_S128x1_0 X)

/-- The array the host makes of the scales of the projection. -/
theorem host19 : V2 m ρ c main_v19 = lanes (m ((c : Thread nD τ).loc main_arg7)) := by
  have e := W1_args m ρ c main_arg7 (by decide)
  show StableHlo.after hostOps1 (W1 m ρ c) _ = _
  unfold hostOps1
  after_results
  rw [e]
/-- The array the host makes of the bias of the projection. -/
theorem host21 : V2 m ρ c main_v21 = lanes (m ((c : Thread nD τ).loc main_arg8)) := by
  have e := W1_args m ρ c main_arg8 (by decide)
  show StableHlo.after hostOps1 (W1 m ρ c) _ = _
  unfold hostOps1
  after_results
  rw [e]
/-- The array the host makes of the gain of the layer norm. -/
theorem host23 : V2 m ρ c main_v23 = lanes (m ((c : Thread nD τ).loc main_arg9)) := by
  have e := W1_args m ρ c main_arg9 (by decide)
  show StableHlo.after hostOps1 (W1 m ρ c) _ = _
  unfold hostOps1
  after_results
  rw [e]
/-- The array the host makes of the bias of the layer norm. -/
theorem host25 : V2 m ρ c main_v25 = lanes (m ((c : Thread nD τ).loc main_arg10)) := by
  have e := W1_args m ρ c main_arg10 (by decide)
  show StableHlo.after hostOps1 (W1 m ρ c) _ = _
  unfold hostOps1
  after_results
  rw [e]
/-- A vector repeated over the lanes, read at an index. -/
theorem lanes_apply (X : S128.Idx → Elt Ideal .f32) (e l : Fin 128) : lanes X (ix2 e l) = X (ix1 e) := by
  pointwise
/-- That array of the codes of the projection, read at an index. -/
theorem layWo (X : S1024x128.Idx → Elt Ideal .fp8e4m3) (e : Fin 128) (n : Fin 1024) :
    transpose S128x1024 [1, 0] X transposes_S1024x128_S128x1024_1_0 (ix2 e n) = X (ix2 n e) := by
  pointwise
/-- That array of the projection to the logits, read at an index. -/
theorem layWpb (X : S128x8.Idx → Elt Ideal .f32) (h : Fin 8) (x : Fin 128) :
    transpose S8x128 [1, 0] X transposes_S128x8_S8x128_1_0 (ix2 h x) = X (ix2 x h) := by
  pointwise

/-- The block of the codes of the left operand at each grid point. -/
theorem e0 : ∀ t : Fin cfg1.N, win1_0.index t = ![t.1 % 48, 0, 0] :=
  (by decide +kernel : ∀ t : Fin grid1.N, win1_0.index t = ![t.1 % 48, 0, 0])
/-- The block of the scales of the left operand at each grid point. -/
theorem e1 : ∀ t : Fin cfg1.N, win1_1.index t = ![t.1 % 48, 0, 0] :=
  (by decide +kernel : ∀ t : Fin grid1.N, win1_1.index t = ![t.1 % 48, 0, 0])
/-- The block of the codes of the right operand at each grid point. -/
theorem e2 : ∀ t : Fin cfg1.N, win1_2.index t = ![0, t.1 / 48] :=
  (by decide +kernel : ∀ t : Fin grid1.N, win1_2.index t = ![0, t.1 / 48])
/-- The block of the scales of the right operand at each grid point. -/
theorem e3 : ∀ t : Fin cfg1.N, win1_3.index t = ![0, t.1 / 48] :=
  (by decide +kernel : ∀ t : Fin grid1.N, win1_3.index t = ![0, t.1 / 48])
/-- The block of the counts at each grid point. -/
theorem e4 : ∀ t : Fin cfg1.N, win1_4.index t = ![t.1 % 48, t.1 / 48] :=
  (by decide +kernel : ∀ t : Fin grid1.N, win1_4.index t = ![t.1 % 48, t.1 / 48])
/-- The block of the old pair representation at each grid point. -/
theorem e5 : ∀ t : Fin cfg1.N, win1_5.index t = ![t.1 % 48, t.1 / 48, 0] :=
  (by decide +kernel : ∀ t : Fin grid1.N, win1_5.index t = ![t.1 % 48, t.1 / 48, 0])
/-- The block of the codes of the projection at each grid point. -/
theorem e6 : ∀ t : Fin cfg1.N, win1_6.index t = ![0, 0] :=
  (by decide +kernel : ∀ t : Fin grid1.N, win1_6.index t = ![0, 0])
/-- The block of the scales of the projection at each grid point. -/
theorem e7 : ∀ t : Fin cfg1.N, win1_7.index t = ![0, 0] :=
  (by decide +kernel : ∀ t : Fin grid1.N, win1_7.index t = ![0, 0])
/-- The block of the bias of the projection at each grid point. -/
theorem e8 : ∀ t : Fin cfg1.N, win1_8.index t = ![0, 0] :=
  (by decide +kernel : ∀ t : Fin grid1.N, win1_8.index t = ![0, 0])
/-- The block of the gain of the layer norm at each grid point. -/
theorem e9 : ∀ t : Fin cfg1.N, win1_9.index t = ![0, 0] :=
  (by decide +kernel : ∀ t : Fin grid1.N, win1_9.index t = ![0, 0])
/-- The block of the bias of the layer norm at each grid point. -/
theorem e10 : ∀ t : Fin cfg1.N, win1_10.index t = ![0, 0] :=
  (by decide +kernel : ∀ t : Fin grid1.N, win1_10.index t = ![0, 0])
/-- The block of the projection to the logits at each grid point. -/
theorem e11 : ∀ t : Fin cfg1.N, win1_11.index t = ![0, 0] :=
  (by decide +kernel : ∀ t : Fin grid1.N, win1_11.index t = ![0, 0])
/-- The block of the updated pairs at each grid point. -/
theorem e12 : ∀ t : Fin cfg1.N, win1_12.index t = ![t.1 % 48, t.1 / 48, 0] :=
  (by decide +kernel : ∀ t : Fin grid1.N, win1_12.index t = ![t.1 % 48, t.1 / 48, 0])
/-- The block of the logits at each grid point. -/
theorem e13 : ∀ t : Fin cfg1.N, win1_13.index t = ![0, t.1 % 48, t.1 / 48] :=
  (by decide +kernel : ∀ t : Fin grid1.N, win1_13.index t = ![0, t.1 % 48, t.1 / 48])
/-- The block of the codes at each grid point. -/
theorem e14 : ∀ t : Fin cfg1.N, win1_14.index t = ![t.1 % 48, t.1 / 48, 0] :=
  (by decide +kernel : ∀ t : Fin grid1.N, win1_14.index t = ![t.1 % 48, t.1 / 48, 0])
/-- The block of the scales at each grid point. -/
theorem e15 : ∀ t : Fin cfg1.N, win1_15.index t = ![t.1 % 48, t.1 / 48] :=
  (by decide +kernel : ∀ t : Fin grid1.N, win1_15.index t = ![t.1 % 48, t.1 / 48])

end Cert.KernelIdeal.Val
-- ==== Proof.Blocks.lean ====
module

public import proofs.«01_k».proof.Proof.Host

@[expose] public section

noncomputable section

namespace Cert.KernelIdeal.Val
open Cert.KernelIdeal Cert.KernelIdeal.Gen Idealize.ShloMosaic Idealize.ShloMosaic.TcCoe Idealize.ShloMosaic.Pointwise
open scoped BigOperators

section Body
variable (c : Dev nD) (i : grid1.Coords) (arg2 : Memref sig .tc .vmem S1x256x1536 .i8) (harg2 : arg2.IsWhole) (arg3 : Memref sig .tc .vmem S1x256x1536 .f32) (harg3 : arg3.IsWhole) (arg4 : Memref sig .tc .vmem S1536x4096 .i8) (harg4 : arg4.IsWhole) (arg5 : Memref sig .tc .vmem S1536x4096 .f32) (harg5 : arg5.IsWhole) (arg6 : Memref sig .tc .vmem S8x128 .f32) (harg6 : arg6.IsWhole) (arg7 : Memref sig .tc .vmem S8x128x128 .bf16) (harg7 : arg7.IsWhole) (arg8 : Memref sig .tc .vmem S128x1024 .fp8e4m3) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S8x128 .f32) (harg13 : arg13.IsWhole) (arg14 : Memref sig .tc .vmem S8x128x128 .bf16) (harg14 : arg14.IsWhole) (arg15 : Memref sig .tc .vmem S8x8x128 .f32) (harg15 : arg15.IsWhole) (arg16 : Memref sig .tc .vmem S8x128x1024 .fp8e4m3) (harg16 : arg16.IsWhole) (arg17 : Memref sig .tc .vmem S8x128 .f32) (harg17 : arg17.IsWhole) (arg18 : Memref sig .tc .vmem S9216x128 .f32) (harg18 : arg18.IsWhole)
    (x0 : Vec Ideal S1x256x1536 .i8) (x1 : Vec Ideal S1x256x1536 .f32) (x2 : Vec Ideal S1536x4096 .i8) (x3 : Vec Ideal S1536x4096 .f32) (x4 : Vec Ideal S8x128 .f32) (x5 : Vec Ideal S8x128x128 .bf16) (x6 : Vec Ideal S128x1024 .fp8e4m3) (x7 : Vec Ideal S128x128 .f32) (x8 : Vec Ideal S128x128 .f32) (x9 : Vec Ideal S128x128 .f32) (x10 : Vec Ideal S128x128 .f32) (x11 : Vec Ideal S8x128 .f32)

include c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 in
/-- What the body leaves in the block of updated pairs. -/
theorem out12_apply (a : Fin 8) (l e : Fin 128) :
    out1_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 (ix3 a l e) = zB x0 x1 x2 x3 x4 x5 x6 x7 x8 a l e := by
  have ha := a.isLt
  unfold out1_A_12
  rw [View.read_writes_eq_canon _ _ _ (cover1_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11), run_z, zPieces_apply, zBlk_apply]
  congr 1
  exact Fin.ext (Nat.mod_eq_of_lt ha)

/-- What the body leaves in the block of logits. -/
theorem out13_apply (h a : Fin 8) (l : Fin 128) :
    out1_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 (ix3 h a l)
      = pbS (zB x0 x1 x2 x3 x4 x5 x6 x7 x8 a l) (fun x => x9 (ix2 x l)) (fun x => x10 (ix2 x l)) (fun x => x11 (ix2 h x)) := by
  have ha := a.isLt
  unfold out1_A_13
  rw [View.read_writes_eq_canon _ _ _ (cover1_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11), run_pb, pbPieces_apply]
  have e : (⟨a.val % 8, Nat.mod_lt _ (by decide)⟩ : Fin 8) = a := Fin.ext (Nat.mod_eq_of_lt ha)
  congr 1
  · funext x
    rw [zBlk_apply, e]
  · funext x
    rw [View.readAt_eq_ld, Memref.IsWhole.read_unread]
    exact ld_whole2 x9 _ x l
  · funext x
    rw [View.readAt_eq_ld, Memref.IsWhole.read_unread]
    exact ld_whole2 x10 _ x l
  · funext x
    rw [View.readAt_eq_ld, Memref.IsWhole.read_unread]
    exact ld_whole2 x11 _ h x

/-- What the body leaves in the block of codes. -/
theorem out14_apply (a : Fin 8) (l : Fin 128) (n : Fin 1024) :
    out1_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 (ix3 a l n) = codeB x0 x1 x2 x3 x4 a l n := by
  unfold out1_A_14
  rw [View.read_writes_eq_canon _ _ _ (cover1_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11), run_codes, codes_apply]

/-- What the body leaves in the block of scales. -/
theorem out15_apply (a : Fin 8) (l : Fin 128) :
    out1_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 (ix2 a l) = scaleB x0 x1 x2 x3 x4 a l := by
  unfold out1_A_15
  rw [View.read_writes_eq_canon _ _ _ (cover1_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11), run_scale]
  rw [View.canon_apply_of_pieces (fun y : S8x128.Idx => scaleB x0 x1 x2 x3 x4 (y 0) (y 1))]
  · rfl
  · intro p hp x
    obtain rfl := List.mem_singleton.1 hp
    have hx : x = ix2 (x 0) (x 1) := eq_ix2 x
    rw [hx]
    refine (scaleBlk_apply arg2 harg2 arg3 harg3 arg4 harg4 arg5 harg5 arg6 harg6 x0 x1 x2 x3 x4 (x 0) (x 1)).trans ?_
    refine congrArg₂ _ (Fin.ext ?_) (Fin.ext ?_)
    · show (x 0).val = 0 + 1 * (x 0).val
      omega
    · show (x 1).val = 0 + 1 * (x 1).val
      omega
  · refine ⟨_, List.mem_singleton.2 rfl, ?_⟩
    rw [Rect.mem_set_unit]
    intro d
    have := (ix2 a l d).isLt
    match d with
    | 0 => exact ⟨Nat.zero_le _, by simpa using this⟩
    | 1 => exact ⟨Nat.zero_le _, by simpa using this⟩

end Body

section Blocks
variable (m : (ℓ : Loc nD τ sig) → Buf (Elt Ideal) ℓ) (ρ : Dev nD → PrngReg) (c : Dev nD) (t : Fin cfg1.N)

/-- There are 144 grid points. -/
theorem point_lt : t.val < 144 := t.isLt

/-- The row of the pair array that row `i` of a block is. -/
def row (t : Fin cfg1.N) (i : Fin 8) : Fin 384 := ⟨t.val % 48 * 8 + i, by have := point_lt t; omega⟩
/-- The column of the pair array that position `l` of a block is. -/
def col (t : Fin cfg1.N) (l : Fin 128) : Fin 384 := ⟨t.val / 48 * 128 + l, by have := point_lt t; omega⟩

/-- The body's block of the codes of the left operand, read at an index, is an element of the arguments. -/
theorem ib0 (r : Fin 256) (s : Fin 1536) : (iblk1 (V2 m ρ) c 0 t : S1x256x1536.Idx → Elt Ideal .i8) (ix3 0 r s)
    = (m ((c : Thread nD τ).loc main_arg0) : S1536x384x32.Idx → Elt Ideal .i8) (ix3 s (row t ⟨r % 8, by omega⟩) ⟨r / 8, by omega⟩) := by
  have h : ((win1_0.blk t).view.emb (ix3 0 r s : S1x256x1536.Idx) : S48x256x1536.Idx) = ix3 ⟨t.val % 48, Nat.mod_lt _ (by decide)⟩ r s := by
    refine eq3 _ ?_ ?_ ?_ <;> blk_simp [e0] <;> simp
  refine Eq.trans (b := (V2 m ρ c main_v3 : S48x256x1536.Idx → Elt Ideal .i8) ((win1_0.blk t).view.emb (ix3 0 r s : S1x256x1536.Idx))) ?_ ?_
  · blk_simp [iblk1]
  · rw [h, host3, layA]
    rfl

/-- The body's block of the scales of the left operand, read at an index, is an element of the arguments. -/
theorem ib1 (r : Fin 256) (s : Fin 1536) : (iblk1 (V2 m ρ) c 1 t : S1x256x1536.Idx → Elt Ideal .f32) (ix3 0 r s)
    = (m ((c : Thread nD τ).loc main_arg1) : S12x384x32.Idx → Elt Ideal .f32) (ix3 ⟨s / 128, by omega⟩ (row t ⟨r % 8, by omega⟩) ⟨r / 8, by omega⟩) := by
  have h : ((win1_1.blk t).view.emb (ix3 0 r s : S1x256x1536.Idx) : S48x256x1536.Idx) = ix3 ⟨t.val % 48, Nat.mod_lt _ (by decide)⟩ r s := by
    refine eq3 _ ?_ ?_ ?_ <;> blk_simp [e1] <;> simp
  refine Eq.trans (b := (V2 m ρ c main_v8 : S48x256x1536.Idx → Elt Ideal .f32) ((win1_1.blk t).view.emb (ix3 0 r s : S1x256x1536.Idx))) ?_ ?_
  · blk_simp [iblk1]
  · rw [h, host8, layAs]
    rfl

/-- The body's block of the codes of the right operand, read at an index, is an element of the arguments. -/
theorem ib2 (d : Fin 32) (l : Fin 128) (s : Fin 1536) (u : Fin 4096) (hu : u.val = 128 * d + l) : (iblk1 (V2 m ρ) c 2 t : S1536x4096.Idx → Elt Ideal .i8) (ix2 s u)
    = (m ((c : Thread nD τ).loc main_arg2) : S1536x384x32.Idx → Elt Ideal .i8) (ix3 s (col t l) d) := by
  have ht := point_lt t
  have h : ((win1_2.blk t).view.emb (ix2 s u : S1536x4096.Idx) : S1536x12288.Idx) = ix2 s ⟨t.val / 48 * 4096 + u.val, by omega⟩ := by
    refine eq2 _ ?_ ?_ <;> blk_simp [e2] <;> simp
  refine Eq.trans (b := (V2 m ρ c main_v11 : S1536x12288.Idx → Elt Ideal .i8) ((win1_2.blk t).view.emb (ix2 s u : S1536x4096.Idx))) ?_ ?_
  · blk_simp [iblk1]
  · rw [h, host11, layB]
    refine congrArg _ (eq3 _ ?_ ?_ ?_)
    · rfl
    · show (t.val / 48 * 4096 + u.val) / 4096 * 128 + (t.val / 48 * 4096 + u.val) % 128 = t.val / 48 * 128 + l.val
      omega
    · show (t.val / 48 * 4096 + u.val) / 128 % 32 = d.val
      omega

/-- The body's block of the scales of the right operand, read at an index, is an element of the arguments. -/
theorem ib3 (d : Fin 32) (l : Fin 128) (s : Fin 1536) (u : Fin 4096) (hu : u.val = 128 * d + l) : (iblk1 (V2 m ρ) c 3 t : S1536x4096.Idx → Elt Ideal .f32) (ix2 s u)
    = (m ((c : Thread nD τ).loc main_arg3) : S12x384x32.Idx → Elt Ideal .f32) (ix3 ⟨s / 128, by omega⟩ (col t l) d) := by
  have ht := point_lt t
  have h : ((win1_3.blk t).view.emb (ix2 s u : S1536x4096.Idx) : S1536x12288.Idx) = ix2 s ⟨t.val / 48 * 4096 + u.val, by omega⟩ := by
    refine eq2 _ ?_ ?_ <;> blk_simp [e3] <;> simp
  refine Eq.trans (b := (V2 m ρ c main_v16 : S1536x12288.Idx → Elt Ideal .f32) ((win1_3.blk t).view.emb (ix2 s u : S1536x4096.Idx))) ?_ ?_
  · blk_simp [iblk1]
  · rw [h, host16, layBs]
    refine congrArg _ (eq3 _ ?_ ?_ ?_)
    · rfl
    · show (t.val / 48 * 4096 + u.val) / 4096 * 128 + (t.val / 48 * 4096 + u.val) % 128 = t.val / 48 * 128 + l.val
      omega
    · show (t.val / 48 * 4096 + u.val) / 128 % 32 = d.val
      omega

/-- The body's block of the counts, read at an index, is the count of the pair, as the mask gives it. -/
theorem ib4 (a : Fin 8) (l : Fin 128) : (iblk1 (V2 m ρ) c 4 t : S8x128.Idx → Elt Ideal .f32) (ix2 a l)
    = counts (m ((c : Thread nD τ).loc main_arg4)) (ix2 (row t a) (col t l)) := by
  have h : ((win1_4.blk t).view.emb (ix2 a l : S8x128.Idx) : S384x384.Idx) = ix2 (row t a) (col t l) := by
    refine eq2 _ ?_ ?_ <;> blk_simp [e4] <;> simp [row, col]
  refine Eq.trans (b := (V2 m ρ c main_v0 : S384x384.Idx → Elt Ideal .f32) ((win1_4.blk t).view.emb (ix2 a l : S8x128.Idx))) ?_ ?_
  · blk_simp [iblk1]
  · rw [h, host0]

/-- The body's block of the old pair representation, read at an index, is an element of the arguments. -/
theorem ib5 (a : Fin 8) (l e : Fin 128) : (iblk1 (V2 m ρ) c 5 t : S8x128x128.Idx → Elt Ideal .bf16) (ix3 a l e)
    = (m ((c : Thread nD τ).loc main_arg5) : S384x384x128.Idx → Elt Ideal .bf16) (ix3 (row t a) (col t l) e) := by
  have h : ((win1_5.blk t).view.emb (ix3 a l e : S8x128x128.Idx) : S384x384x128.Idx) = ix3 (row t a) (col t l) e := by
    refine eq3 _ ?_ ?_ ?_ <;> blk_simp [e5] <;> simp [row, col]
  refine Eq.trans (b := (V2 m ρ c main_arg5 : S384x384x128.Idx → Elt Ideal .bf16) ((win1_5.blk t).view.emb (ix3 a l e : S8x128x128.Idx))) ?_ ?_
  · blk_simp [iblk1]
  · rw [h]
    exact congrFun (W2_args m ρ c main_arg5 (by decide)) _

/-- The body's block of the codes of the projection, read at an index, is an element of the arguments. -/
theorem ib6 (e : Fin 128) (n : Fin 1024) : (iblk1 (V2 m ρ) c 6 t : S128x1024.Idx → Elt Ideal .fp8e4m3) (ix2 e n)
    = (m ((c : Thread nD τ).loc main_arg6) : S1024x128.Idx → Elt Ideal .fp8e4m3) (ix2 n e) := by
  have h : ((win1_6.blk t).view.emb (ix2 e n : S128x1024.Idx) : S128x1024.Idx) = ix2 e n := by
    refine eq2 _ ?_ ?_ <;> blk_simp [e6] <;> simp
  refine Eq.trans (b := (V2 m ρ c main_v17 : S128x1024.Idx → Elt Ideal .fp8e4m3) ((win1_6.blk t).view.emb (ix2 e n : S128x1024.Idx))) ?_ ?_
  · blk_simp [iblk1]
  · rw [h, host17, layWo]

/-- The body's block of the scales of the projection, read at an index, is an element of the arguments. -/
theorem ib7 (e : Fin 128) (l : Fin 128) : (iblk1 (V2 m ρ) c 7 t : S128x128.Idx → Elt Ideal .f32) (ix2 e l)
    = (m ((c : Thread nD τ).loc main_arg7) : S128.Idx → Elt Ideal .f32) (ix1 e) := by
  have h : ((win1_7.blk t).view.emb (ix2 e l : S128x128.Idx) : S128x128.Idx) = ix2 e l := by
    refine eq2 _ ?_ ?_ <;> blk_simp [e7] <;> simp
  refine Eq.trans (b := (V2 m ρ c main_v19 : S128x128.Idx → Elt Ideal .f32) ((win1_7.blk t).view.emb (ix2 e l : S128x128.Idx))) ?_ ?_
  · blk_simp [iblk1]
  · rw [h, host19, lanes_apply]

/-- The body's block of the bias of the projection, read at an index, is an element of the arguments. -/
theorem ib8 (e : Fin 128) (l : Fin 128) : (iblk1 (V2 m ρ) c 8 t : S128x128.Idx → Elt Ideal .f32) (ix2 e l)
    = (m ((c : Thread nD τ).loc main_arg8) : S128.Idx → Elt Ideal .f32) (ix1 e) := by
  have h : ((win1_8.blk t).view.emb (ix2 e l : S128x128.Idx) : S128x128.Idx) = ix2 e l := by
    refine eq2 _ ?_ ?_ <;> blk_simp [e8] <;> simp
  refine Eq.trans (b := (V2 m ρ c main_v21 : S128x128.Idx → Elt Ideal .f32) ((win1_8.blk t).view.emb (ix2 e l : S128x128.Idx))) ?_ ?_
  · blk_simp [iblk1]
  · rw [h, host21, lanes_apply]

/-- The body's block of the gain of the layer norm, read at an index, is an element of the arguments. -/
theorem ib9 (e : Fin 128) (l : Fin 128) : (iblk1 (V2 m ρ) c 9 t : S128x128.Idx → Elt Ideal .f32) (ix2 e l)
    = (m ((c : Thread nD τ).loc main_arg9) : S128.Idx → Elt Ideal .f32) (ix1 e) := by
  have h : ((win1_9.blk t).view.emb (ix2 e l : S128x128.Idx) : S128x128.Idx) = ix2 e l := by
    refine eq2 _ ?_ ?_ <;> blk_simp [e9] <;> simp
  refine Eq.trans (b := (V2 m ρ c main_v23 : S128x128.Idx → Elt Ideal .f32) ((win1_9.blk t).view.emb (ix2 e l : S128x128.Idx))) ?_ ?_
  · blk_simp [iblk1]
  · rw [h, host23, lanes_apply]

/-- The body's block of the bias of the layer norm, read at an index, is an element of the arguments. -/
theorem ib10 (e : Fin 128) (l : Fin 128) : (iblk1 (V2 m ρ) c 10 t : S128x128.Idx → Elt Ideal .f32) (ix2 e l)
    = (m ((c : Thread nD τ).loc main_arg10) : S128.Idx → Elt Ideal .f32) (ix1 e) := by
  have h : ((win1_10.blk t).view.emb (ix2 e l : S128x128.Idx) : S128x128.Idx) = ix2 e l := by
    refine eq2 _ ?_ ?_ <;> blk_simp [e10] <;> simp
  refine Eq.trans (b := (V2 m ρ c main_v25 : S128x128.Idx → Elt Ideal .f32) ((win1_10.blk t).view.emb (ix2 e l : S128x128.Idx))) ?_ ?_
  · blk_simp [iblk1]
  · rw [h, host25, lanes_apply]

/-- The body's block of the projection to the logits, read at an index, is an element of the arguments. -/
theorem ib11 (h : Fin 8) (x : Fin 128) : (iblk1 (V2 m ρ) c 11 t : S8x128.Idx → Elt Ideal .f32) (ix2 h x)
    = (m ((c : Thread nD τ).loc main_arg11) : S128x8.Idx → Elt Ideal .f32) (ix2 x h) := by
  have hh : ((win1_11.blk t).view.emb (ix2 h x : S8x128.Idx) : S8x128.Idx) = ix2 h x := by
    refine eq2 _ ?_ ?_ <;> blk_simp [e11] <;> simp
  refine Eq.trans (b := (V2 m ρ c main_v26 : S8x128.Idx → Elt Ideal .f32) ((win1_11.blk t).view.emb (ix2 h x : S8x128.Idx))) ?_ ?_
  · blk_simp [iblk1]
  · rw [hh, host26, layWpb]

end Blocks

/-! ## The results at an index of the whole arrays -/

section Whole
variable (a0 : S1536x384x32.Idx → Elt Ideal .i8) (a1 : S12x384x32.Idx → Elt Ideal .f32) (a2 : S1536x384x32.Idx → Elt Ideal .i8)
  (a3 : S12x384x32.Idx → Elt Ideal .f32) (a4 : S384x384.Idx → Elt Ideal .f32) (a5 : S384x384x128.Idx → Elt Ideal .bf16)
  (a6 : S1024x128.Idx → Elt Ideal .fp8e4m3) (a7 a8 a9 a10 : S128.Idx → Elt Ideal .f32) (a11 : S128x8.Idx → Elt Ideal .f32)

/-- The outer product of a pair in channel `n`, summed over the sequences: the codes widened and multiplied by their block's scale. -/
def prodW (I J : Fin 384) (n : Fin 1024) : EReal :=
  ∑ s : Fin 1536, (FloatOps.sitofp (F := Ideal) .bf16 (a0 (ix3 s I ⟨n / 32, by omega⟩)) * a1 (ix3 ⟨s / 128, by omega⟩ I ⟨n / 32, by omega⟩))
    * (FloatOps.sitofp (F := Ideal) .bf16 (a2 (ix3 s J ⟨n % 32, by omega⟩)) * a3 (ix3 ⟨s / 128, by omega⟩ J ⟨n % 32, by omega⟩))

/-- The largest absolute value over the channels. -/
def amaxW (f : Fin 1024 → EReal) : EReal := Finset.univ.sup fun n => max (f n) (-(f n))

/-- The scale of a pair, taken from the sums before the division by the count. -/
def scaleW (I J : Fin 384) : EReal := scaleS (amaxW (prodW a0 a1 a2 a3 I J)) (a4 (ix2 I J))

/-- The code of a pair in channel `n`. -/
def codeW (I J : Fin 384) (n : Fin 1024) : EReal :=
  clipS (prodW a0 a1 a2 a3 I J n * Ideal.div 1 (scaleW a0 a1 a2 a3 a4 I J * a4 (ix2 I J)))

/-- The updated pair from its codes and its scale. -/
def zW (code : Fin 1024 → EReal) (scale : EReal) (I J : Fin 384) (e : Fin 128) : EReal :=
  a5 (ix3 I J e) + ((∑ n, a6 (ix2 n e) * code n) * scale * a7 (ix1 e) + a8 (ix1 e))
end Whole

section Glob
variable (m : (ℓ : Loc nD τ sig) → Buf (Elt Ideal) ℓ) (ρ : Dev nD → PrngReg) (c : Dev nD) (t : Fin cfg1.N)

/-- The codes of the left operand, as the run finds them. -/
abbrev g0 : S1536x384x32.Idx → Elt Ideal .i8 := m ((c : Thread nD τ).loc main_arg0)
/-- The scales of the left operand, as the run finds them. -/
abbrev g1 : S12x384x32.Idx → Elt Ideal .f32 := m ((c : Thread nD τ).loc main_arg1)
/-- The codes of the right operand, as the run finds them. -/
abbrev g2 : S1536x384x32.Idx → Elt Ideal .i8 := m ((c : Thread nD τ).loc main_arg2)
/-- The scales of the right operand, as the run finds them. -/
abbrev g3 : S12x384x32.Idx → Elt Ideal .f32 := m ((c : Thread nD τ).loc main_arg3)
/-- The counts, from the mask as the run finds it. -/
abbrev g4 : S384x384.Idx → Elt Ideal .f32 := counts (m ((c : Thread nD τ).loc main_arg4))
/-- The old pair representation, as the run finds it. -/
abbrev g5 : S384x384x128.Idx → Elt Ideal .bf16 := m ((c : Thread nD τ).loc main_arg5)
/-- The codes of the projection, as the run finds them. -/
abbrev g6 : S1024x128.Idx → Elt Ideal .fp8e4m3 := m ((c : Thread nD τ).loc main_arg6)
/-- The scales of the projection, as the run finds them. -/
abbrev g7 : S128.Idx → Elt Ideal .f32 := m ((c : Thread nD τ).loc main_arg7)
/-- The bias of the projection, as the run finds it. -/
abbrev g8 : S128.Idx → Elt Ideal .f32 := m ((c : Thread nD τ).loc main_arg8)
/-- The gain of the layer norm, as the run finds it. -/
abbrev g9 : S128.Idx → Elt Ideal .f32 := m ((c : Thread nD τ).loc main_arg9)
/-- The bias of the layer norm, as the run finds it. -/
abbrev g10 : S128.Idx → Elt Ideal .f32 := m ((c : Thread nD τ).loc main_arg10)
/-- The projection to the logits, as the run finds it. -/
abbrev g11 : S128x8.Idx → Elt Ideal .f32 := m ((c : Thread nD τ).loc main_arg11)

/-- The body's sum at a pair of its block and a channel is the outer product of that pair. -/
theorem O_eq (a : Fin 8) (l : Fin 128) (n : Fin 1024) :
    O (iblk1 (V2 m ρ) c 0 t) (iblk1 (V2 m ρ) c 1 t) (iblk1 (V2 m ρ) c 2 t) (iblk1 (V2 m ρ) c 3 t) a l n = prodW (g0 m c) (g1 m c) (g2 m c) (g3 m c) (row t a) (col t l) n := by
  have ha := a.isLt
  have hl := l.isLt
  have hn := n.isLt
  unfold O prodW
  refine Finset.sum_congr rfl fun s _ => ?_
  unfold A B
  have er : (Fin.ofNat 256 (8 * (n.val / 32) + a.val)).val = 8 * (n.val / 32) + a.val := Nat.mod_eq_of_lt (by omega)
  have eu : (Fin.ofNat 4096 (128 * (n.val % 32) + l.val)).val = 128 * (n.val % 32) + l.val := Nat.mod_eq_of_lt (by omega)
  rw [ib0, ib1, ib2 m ρ c t ⟨n.val % 32, by omega⟩ l s _ eu, ib3 m ρ c t ⟨n.val % 32, by omega⟩ l s _ eu]
  have e1 : (⟨(Fin.ofNat 256 (8 * (n.val / 32) + a.val)).val % 8, by omega⟩ : Fin 8) = a := Fin.ext (by show (Fin.ofNat 256 (8 * (n.val / 32) + a.val)).val % 8 = a.val; omega)
  have e2 : (⟨(Fin.ofNat 256 (8 * (n.val / 32) + a.val)).val / 8, by omega⟩ : Fin 32) = ⟨n.val / 32, by omega⟩ := Fin.ext (by show (Fin.ofNat 256 (8 * (n.val / 32) + a.val)).val / 8 = n.val / 32; omega)
  rw [e1, e2]

/-- The body's scale at a pair of its block is the scale of that pair. -/
theorem scaleB_eq (a : Fin 8) (l : Fin 128) :
    scaleB (iblk1 (V2 m ρ) c 0 t) (iblk1 (V2 m ρ) c 1 t) (iblk1 (V2 m ρ) c 2 t) (iblk1 (V2 m ρ) c 3 t) (iblk1 (V2 m ρ) c 4 t) a l = scaleW (g0 m c) (g1 m c) (g2 m c) (g3 m c) (g4 m c) (row t a) (col t l) := by
  unfold scaleB scaleW amaxO amaxW
  rw [ib4]
  simp only [O_eq]

/-- The body's code at a pair of its block is the code of that pair. -/
theorem codeB_eq (a : Fin 8) (l : Fin 128) (n : Fin 1024) :
    codeB (iblk1 (V2 m ρ) c 0 t) (iblk1 (V2 m ρ) c 1 t) (iblk1 (V2 m ρ) c 2 t) (iblk1 (V2 m ρ) c 3 t) (iblk1 (V2 m ρ) c 4 t) a l n
      = codeW (g0 m c) (g1 m c) (g2 m c) (g3 m c) (g4 m c) (row t a) (col t l) n := by
  unfold codeB codeW
  rw [ib4, O_eq, scaleB_eq]

/-- The updated pair as the kernel computes it. -/
abbrev zG (I J : Fin 384) (e : Fin 128) : EReal :=
  zW (g5 m c) (g6 m c) (g7 m c) (g8 m c) (codeW (g0 m c) (g1 m c) (g2 m c) (g3 m c) (g4 m c) I J) (scaleW (g0 m c) (g1 m c) (g2 m c) (g3 m c) (g4 m c) I J) I J e

/-- The body's updated pair at a pair of its block is the updated pair of the whole arrays. -/
theorem zB_eq (a : Fin 8) (l e : Fin 128) :
    zB (iblk1 (V2 m ρ) c 0 t) (iblk1 (V2 m ρ) c 1 t) (iblk1 (V2 m ρ) c 2 t) (iblk1 (V2 m ρ) c 3 t) (iblk1 (V2 m ρ) c 4 t) (iblk1 (V2 m ρ) c 5 t) (iblk1 (V2 m ρ) c 6 t) (iblk1 (V2 m ρ) c 7 t) (iblk1 (V2 m ρ) c 8 t) a l e
      = zG m c (row t a) (col t l) e := by
  unfold zB zG zW
  rw [ib5, ib7, ib8, scaleB_eq]
  simp only [codeB_eq, ib6]

/-- The array of updated pairs after the run. -/
def res0 : S384x384x128.Idx → EReal := fun y => zG m c (y 0) (y 1) (y 2)
/-- The logits after the run. -/
def res1 : S8x384x384.Idx → EReal := fun y =>
  pbS (zG m c (y 1) (y 2)) (fun x => g9 m c (ix1 x)) (fun x => g10 m c (ix1 x)) (fun x => g11 m c (ix2 x (y 0)))
/-- The codes after the run. -/
def res2 : S384x384x1024.Idx → EReal := fun y => codeW (g0 m c) (g1 m c) (g2 m c) (g3 m c) (g4 m c) (y 0) (y 1) (y 2)
/-- The scales after the run. -/
def res3 : S384x384.Idx → EReal := fun y => scaleW (g0 m c) (g1 m c) (g2 m c) (g3 m c) (g4 m c) (y 0) (y 1)

/-- What the run leaves as the updated pairs: the function of the arguments above. -/
theorem final12 : (dat1 (V2 m ρ) c).arrAt 12 cfg1.N = res0 m c := by
  refine (dat1 (V2 m ρ) c).arrAt_eq_of_covers 12 _ (by decide +kernel) fun t hf y => ?_
  blk_simp
  rw [after1_12]
  simp only [outsAt1]
  obtain ⟨a, l, e, rfl⟩ : ∃ (a : Fin 8) (l e : Fin 128), y = ix3 a l e := ⟨y 0, y 1, y 2, eq_ix3 y⟩
  rw [out12_apply]
  rw [zB_eq]
  have hh : ((win1_12.blk t).view.emb (ix3 a l e : S8x128x128.Idx) : S384x384x128.Idx) = ix3 (row t a) (col t l) e := by
    refine eq3 _ ?_ ?_ ?_ <;> blk_simp [e12] <;> simp [row, col]
  exact (congrArg (res0 m c) hh).symm

/-- What the run leaves as the logits: the function of the arguments above. -/
theorem final13 : (dat1 (V2 m ρ) c).arrAt 13 cfg1.N = res1 m c := by
  refine (dat1 (V2 m ρ) c).arrAt_eq_of_covers 13 _ (by decide +kernel) fun t hf y => ?_
  blk_simp
  rw [after1_13]
  simp only [outsAt1]
  obtain ⟨h, a, l, rfl⟩ : ∃ (h a : Fin 8) (l : Fin 128), y = ix3 h a l := ⟨y 0, y 1, y 2, eq_ix3 y⟩
  rw [out13_apply]
  have hz : zB (iblk1 (V2 m ρ) c 0 t) (iblk1 (V2 m ρ) c 1 t) (iblk1 (V2 m ρ) c 2 t) (iblk1 (V2 m ρ) c 3 t) (iblk1 (V2 m ρ) c 4 t) (iblk1 (V2 m ρ) c 5 t) (iblk1 (V2 m ρ) c 6 t) (iblk1 (V2 m ρ) c 7 t) (iblk1 (V2 m ρ) c 8 t) a l = zG m c (row t a) (col t l) := funext (zB_eq m ρ c t a l)
  rw [hz]
  simp only [ib9, ib10, ib11]
  have hh : ((win1_13.blk t).view.emb (ix3 h a l : S8x8x128.Idx) : S8x384x384.Idx) = ix3 h (row t a) (col t l) := by
    refine eq3 _ ?_ ?_ ?_ <;> blk_simp [e13] <;> simp [row, col]
  exact (congrArg (res1 m c) hh).symm

/-- What the run leaves as the codes: the function of the arguments above. -/
theorem final14 : (dat1 (V2 m ρ) c).arrAt 14 cfg1.N = res2 m c := by
  refine (dat1 (V2 m ρ) c).arrAt_eq_of_covers 14 _ (by decide +kernel) fun t hf y => ?_
  blk_simp
  rw [after1_14]
  simp only [outsAt1]
  obtain ⟨a, l, n, rfl⟩ : ∃ (a : Fin 8) (l : Fin 128) (n : Fin 1024), y = ix3 a l n := ⟨y 0, y 1, y 2, eq_ix3 y⟩
  rw [out14_apply]
  rw [codeB_eq]
  have hh : ((win1_14.blk t).view.emb (ix3 a l n : S8x128x1024.Idx) : S384x384x1024.Idx) = ix3 (row t a) (col t l) n := by
    refine eq3 _ ?_ ?_ ?_ <;> blk_simp [e14] <;> simp [row, col]
  exact (congrArg (res2 m c) hh).symm

/-- What the run leaves as the scales: the function of the arguments above. -/
theorem final15 : (dat1 (V2 m ρ) c).arrAt 15 cfg1.N = res3 m c := by
  refine (dat1 (V2 m ρ) c).arrAt_eq_of_covers 15 _ (by decide +kernel) fun t hf y => ?_
  blk_simp
  rw [after1_15]
  simp only [outsAt1]
  obtain ⟨a, l, rfl⟩ : ∃ (a : Fin 8) (l : Fin 128), y = ix2 a l := ⟨y 0, y 1, eq_ix2 y⟩
  rw [out15_apply]
  rw [scaleB_eq]
  have hh : ((win1_15.blk t).view.emb (ix2 a l : S8x128.Idx) : S384x384.Idx) = ix2 (row t a) (col t l) := by
    refine eq2 _ ?_ ?_ <;> blk_simp [e15] <;> simp [row, col]
  exact (congrArg (res3 m c) hh).symm

end Glob
end Cert.KernelIdeal.Val
-- ==== Proof.Ref.lean ====
module

public import proofs.«01_k».proof.Proof.Blocks
public import proofs.«01_k».proof.Proof.Gen.ReferenceIdeal.Value

@[expose] public section

noncomputable section

namespace Cert.ReferenceIdeal.Val
open Cert.ReferenceIdeal Cert.ReferenceIdeal.Gen Idealize.ShloMosaic Idealize.ShloMosaic.TcCoe Idealize.ShloMosaic.Pointwise
open Cert.KernelIdeal.Val (counts prodW amaxW clipS meanS varS zW eq2 eq3 ld1 ld2 ld3 canon2 canon3)
open scoped BigOperators

/-- The scale of a pair from the largest absolute value of its channels. -/
def scaleR (x : EReal) : EReal := if x = 0 then 1 else Ideal.div x (Ideal.ofBits .f32 0x43E00000#32)

/-- The logit of a pair: layer norm with the division by the square root, gain, bias and the projection. -/
def pbR (z g be w : Fin 128 → EReal) : EReal :=
  ∑ x, w x * (Ideal.div (z x - meanS z) (Ideal.sqrt (varS z + Ideal.ofBits .f32 0x3727C5AC#32)) * g x + be x)

section Pay
variable (v0 : Vec Ideal S1536x384x32 .i8) (v1 : Vec Ideal S12x384x32 .f32) (v8 : Vec Ideal S1536x384x32 .i8) (v9 : Vec Ideal S12x384x32 .f32) (v18 : Vec Ideal S384x384 .f32) (k : Vec Ideal S1536x384 .f32)

/-- The mean of a pair over the sequences in one channel. -/
def meanP (I J : Fin 384) (n : Fin 1024) : EReal := Ideal.div (prodW v0 v1 v8 v9 I J n) (v18 (ix2 I J))

/-- The mean outer product of a pair, read at an index. -/
theorem pay2_apply (i j : Fin 384) (n : Fin 1024) : k0_pay2 k v0 v1 v8 v9 (ix3 i j n) = meanP v0 v1 v8 v9 (counts k) i j n := by
  unfold meanP prodW counts
  simp only [mul_comm (FloatOps.sitofp (F := Ideal) .bf16 (v0 _) * _)]
  pointwise [k0_pay2]

/-- The largest absolute value over the channels, kept as a column. -/
abbrev amaxV (X : FVec Ideal S384x384x1024 .f32) : FVec Ideal S384x384x1 .f32 :=
  shapeCast S384x384x1 (multiReduction .maximumf [2] S384x384 (absf X) 0xFF800000#32 reduces_S384x384x1024_S384x384 (.inl rfl) rfl) shapeCasts_S384x384_S384x384x1

/-- The scales from the largest absolute values. -/
abbrev scaleV (X : FVec Ideal S384x384x1 .f32) : FVec Ideal S384x384x1 .f32 :=
  select (cmpf .oeq X (broadcast S384x384x1 (Scalar.ofBits (F := Ideal) .f32 0x00000000#32))) (broadcast S384x384x1 (Scalar.ofBits (F := Ideal) .f32 0x3F800000#32)) (divf X (broadcast S384x384x1 (Scalar.ofBits (F := Ideal) .f32 0x43E00000#32)))

/-- The codes from the means and the scales. -/
abbrev codeV (X Y : FVec Ideal S384x384x1024 .f32) : FVec Ideal S384x384x1024 .fp8e4m3 :=
  truncf .fp8e4m3 (minimumf (broadcast S384x384x1024 (Scalar.ofBits (F := Ideal) .f32 0x43E00000#32)) (maximumf (broadcast S384x384x1024 (Scalar.ofBits (F := Ideal) .f32 0xC3E00000#32)) (divf X Y))) bitsLt_fp8e4m3_f32

/-- The constant minus infinity. -/
theorem ofBits_neg_inf : Ideal.ofBits .f32 0xFF800000#32 = ⊥ := by simp [Ideal.ofBits, Ideal.ieee]

/-- A fold of maxima from minus infinity is the supremum. -/
theorem fold_max {ι : Type} [DecidableEq ι] (s : Finset ι) (f : ι → EReal) : Finset.fold max ⊥ f s = s.sup f := rfl

/-- The largest absolute value over the channels, read at an index. -/
theorem amaxV_apply (X : FVec Ideal S384x384x1024 .f32) (i j : Fin 384) (k : Fin 1) : amaxV X (ix3 i j k) = amaxW fun n => X (ix3 i j n) := by
  generalize hr : (amaxW fun n => X (ix3 i j n)) = r
  pointwise
  rw [← hr, ofBits_neg_inf, fold_max]
  rfl

/-- The scales, read at an index. -/
theorem scaleV_apply (X : FVec Ideal S384x384x1 .f32) (i j : Fin 384) (k : Fin 1) : scaleV X (ix3 i j k) = scaleR (X (ix3 i j k)) := by
  generalize hr : scaleR (X (ix3 i j k)) = r
  pointwise
  rw [← hr, scaleR]

/-- The codes, read at an index. -/
theorem codeV_apply (X Y : FVec Ideal S384x384x1024 .f32) (i j : Fin 384) (n : Fin 1024) : codeV X Y (ix3 i j n) = clipS (Ideal.div (X (ix3 i j n)) (Y (ix3 i j n))) := by
  generalize hr : clipS (Ideal.div (X (ix3 i j n)) (Y (ix3 i j n))) = r
  pointwise
  rw [← hr, clipS]

/-- The scales repeated over the channels, read at an index. -/
theorem spread_apply (X : FVec Ideal S384x384x1 .f32) (i j : Fin 384) (n : Fin 1024) :
    (broadcastTo S384x384x1024 X broadcasts_S384x384x1_S384x384x1024 : FVec Ideal S384x384x1024 .f32) (ix3 i j n) = X (ix3 i j 0) := by
  pointwise

/-- The body's scales are those of its mean outer product. -/
theorem pay3_eq : k0_pay3 k v0 v1 v8 v9 = scaleV (amaxV (k0_pay2 k v0 v1 v8 v9)) := rfl

/-- The body's scales, read at an index. -/
theorem pay3_apply (i j : Fin 384) (z : Fin 1) : k0_pay3 k v0 v1 v8 v9 (ix3 i j z) = scaleR (amaxW (meanP v0 v1 v8 v9 (counts k) i j)) := by
  rw [pay3_eq, scaleV_apply, amaxV_apply]
  simp only [pay2_apply]

/-- The least value of a code, as the body passes it on. -/
abbrev lo : EReal := Scalar.ofBits (F := Ideal) .f32 0xC3E00000#32
/-- The largest value of a code, as the body passes it on. -/
abbrev hi : EReal := Scalar.ofBits (F := Ideal) .f32 0x43E00000#32

/-- The body's codes are those of its mean outer product and its scales. -/
theorem pay5_eq : k0_pay5 (k0_pay4 k v0 v1 v8 v9) lo hi
    = codeV (k0_pay2 k v0 v1 v8 v9) (broadcastTo S384x384x1024 (k0_pay3 k v0 v1 v8 v9) broadcasts_S384x384x1_S384x384x1024) := rfl

/-- The body's codes, read at an index. -/
theorem pay5_apply (i j : Fin 384) (n : Fin 1024) : k0_pay5 (k0_pay4 k v0 v1 v8 v9) lo hi (ix3 i j n)
    = clipS (Ideal.div (meanP v0 v1 v8 v9 (counts k) i j n) (scaleR (amaxW (meanP v0 v1 v8 v9 (counts k) i j)))) := by
  rw [pay5_eq, codeV_apply, spread_apply, pay2_apply, pay3_apply]
end Pay

section Pay7
variable (v34 : FVec Ideal S384x384x1 .f32) (v36 : FVec Ideal S384x384x1024 .f32) (v45 : Vec Ideal S1024x128 .fp8e4m3) (v47 : Vec Ideal S384x384x128 .bf16) (v52 v56 : Vec Ideal S128 .f32)

/-- The scales as stored. -/
theorem pay6_apply (i j : Fin 384) : k0_pay6 v34 (ix2 i j) = v34 (ix3 i j 0) := by
  pointwise [k0_pay6]

/-- The updated pairs, read at an index. -/
theorem pay7_apply (i j : Fin 384) (e : Fin 128) : k0_pay7 v34 v36 lo hi v45 v47 v52 v56 (ix3 i j e)
    = zW v47 v45 v52 v56 (fun n => k0_pay5 v36 lo hi (ix3 i j n)) (v34 (ix3 i j 0)) i j e := by
  unfold zW k0_pay7
  simp only [mul_comm (v45 _)]
  generalize k0_pay5 v36 lo hi = C
  pointwise [k0_pay6]

/-- The updated pairs as stored. -/
theorem pay8_apply (i j : Fin 384) (e : Fin 128) : k0_pay8 v34 v36 lo hi v45 v47 v52 v56 (ix3 i j e) = k0_pay7 v34 v36 lo hi v45 v47 v52 v56 (ix3 i j e) := by
  unfold k0_pay8
  generalize k0_pay7 v34 v36 lo hi v45 v47 v52 v56 = Z
  pointwise

/-- The updated pairs less their mean. -/
theorem pay9_apply (i j : Fin 384) (e : Fin 128) : k0_pay9 v34 v36 lo hi v45 v47 v52 v56 (ix3 i j e)
    = k0_pay7 v34 v36 lo hi v45 v47 v52 v56 (ix3 i j e) - meanS fun x => k0_pay7 v34 v36 lo hi v45 v47 v52 v56 (ix3 i j x) := by
  unfold k0_pay9 meanS
  generalize k0_pay7 v34 v36 lo hi v45 v47 v52 v56 = Z
  pointwise

/-- The sum of their squares over 128 is the variance. -/
theorem pay10_apply (i j : Fin 384) : Ideal.div (k0_pay10 v34 v36 lo hi v45 v47 v52 v56 (ix2 i j)) (Ideal.ofBits .f32 0x43000000#32)
    = varS fun x => k0_pay7 v34 v36 lo hi v45 v47 v52 v56 (ix3 i j x) := by
  unfold varS
  simp only [← pay9_apply]
  unfold k0_pay10 meanS
  generalize k0_pay9 v34 v36 lo hi v45 v47 v52 v56 = Z
  pointwise

/-- The logits, read at an index. -/
theorem pay1_apply (g be : Vec Ideal S128 .f32) (w : Vec Ideal S128x8 .f32) (h : Fin 8) (i j : Fin 384) :
    k0_pay1 g be (k0_pay9 v34 v36 lo hi v45 v47 v52 v56) (k0_pay10 v34 v36 lo hi v45 v47 v52 v56) w (ix3 h i j)
      = pbR (fun x => k0_pay7 v34 v36 lo hi v45 v47 v52 v56 (ix3 i j x)) (fun x => g (ix1 x)) (fun x => be (ix1 x)) (fun x => w (ix2 x h)) := by
  unfold pbR
  rw [← pay10_apply v34 v36 v45 v47 v52 v56 i j]
  simp only [← pay9_apply]
  generalize k0_pay9 v34 v36 lo hi v45 v47 v52 v56 = Z
  generalize k0_pay10 v34 v36 lo hi v45 v47 v52 v56 = W
  pointwise [k0_pay1]
end Pay7

section Out
variable (x0 : Vec Ideal S1536x384x32 .i8) (x1 : Vec Ideal S12x384x32 .f32) (x2 : Vec Ideal S1536x384x32 .i8) (x3 : Vec Ideal S12x384x32 .f32) (x4 : Vec Ideal S384x384 .f32) (x5 : Vec Ideal S384x384x128 .bf16) (x6 : Vec Ideal S1024x128 .fp8e4m3) (x7 : Vec Ideal S128 .f32) (x8 : Vec Ideal S128 .f32) (x9 : Vec Ideal S128 .f32) (x10 : Vec Ideal S128 .f32) (x11 : Vec Ideal S128x8 .f32) (k : Vec Ideal S1536x384 .f32)

/-- The scale of a pair as the reference computes it. -/
def scaleG (I J : Fin 384) : EReal := scaleR (amaxW (meanP x0 x1 x2 x3 x4 I J))
/-- The code of a pair as the reference computes it. -/
def codeG (I J : Fin 384) (n : Fin 1024) : EReal := clipS (Ideal.div (meanP x0 x1 x2 x3 x4 I J n) (scaleG x0 x1 x2 x3 x4 I J))
/-- The updated pair as the reference computes it. -/
abbrev zG (I J : Fin 384) (e : Fin 128) : EReal :=
  zW x5 x6 x7 x8 (codeG x0 x1 x2 x3 x4 I J) (scaleG x0 x1 x2 x3 x4 I J) I J e

/-- The scales of the loaded blocks. -/
theorem p11 : k0_pay11 x0 x1 x2 x3 k x5 x6 x7 x8 x9 x10 x11 = k0_pay3 k x0 x1 x2 x3 := by
  unfold k0_pay11
  rw [ld3 x0, ld3 x1, ld3 x2, ld3 x3, ld2 k]

/-- The quotients of the loaded blocks. -/
theorem p12 : k0_pay12 x0 x1 x2 x3 k x5 x6 x7 x8 x9 x10 x11 = k0_pay4 k x0 x1 x2 x3 := by
  unfold k0_pay12
  rw [ld3 x0, ld3 x1, ld3 x2, ld3 x3, ld2 k]

/-- The updated pairs of the loaded blocks. -/
theorem p7 (i j : Fin 384) (e : Fin 128) :
    k0_pay7 (k0_pay3 k x0 x1 x2 x3) (k0_pay4 k x0 x1 x2 x3) lo hi x6 x5 x7 x8 (ix3 i j e) = zG x0 x1 x2 x3 (counts k) x5 x6 x7 x8 i j e := by
  rw [pay7_apply, pay3_apply]
  simp only [pay5_apply]
  rfl

/-- What the body stores as the updated pairs, at an index. -/
theorem o12 (i j : Fin 384) (e : Fin 128) : out0_12 x0 x1 x2 x3 k x5 x6 x7 x8 x9 x10 x11 (ix3 i j e) = zG x0 x1 x2 x3 (counts k) x5 x6 x7 x8 i j e := by
  unfold out0_12
  rw [canon3, pay8_apply, p11, p12, ld2 x6, ld3 x5, ld1 x7, ld1 x8, p7]

/-- What the body stores as the logits, at an index. -/
theorem o13 (h : Fin 8) (i j : Fin 384) : out0_13 x0 x1 x2 x3 k x5 x6 x7 x8 x9 x10 x11 (ix3 h i j)
    = pbR (zG x0 x1 x2 x3 (counts k) x5 x6 x7 x8 i j) (fun x => x9 (ix1 x)) (fun x => x10 (ix1 x)) (fun x => x11 (ix2 x h)) := by
  unfold out0_13
  rw [canon3, pay1_apply, p11, p12, ld2 x6, ld3 x5, ld1 x7, ld1 x8, ld1 x9, ld1 x10, ld2 x11]
  simp only [p7]

/-- What the body stores as the codes, at an index. -/
theorem o14 (i j : Fin 384) (n : Fin 1024) : out0_14 x0 x1 x2 x3 k x5 x6 x7 x8 x9 x10 x11 (ix3 i j n) = codeG x0 x1 x2 x3 (counts k) i j n := by
  unfold out0_14
  rw [canon3, p12, pay5_apply]
  rfl

/-- What the body stores as the scales, at an index. -/
theorem o15 (i j : Fin 384) : out0_15 x0 x1 x2 x3 k x5 x6 x7 x8 x9 x10 x11 (ix2 i j) = scaleG x0 x1 x2 x3 (counts k) i j := by
  unfold out0_15
  rw [canon2, pay6_apply, p11, pay3_apply]
  rfl
end Out

section Final
variable (m : (ℓ : Loc nD τ sig) → Buf (Elt Ideal) ℓ) (c : Dev nD) (t : Fin cfg0.N)

/-- The one block of the codes of the left operand begins at the origin. -/
theorem e0 : ∀ t : Fin cfg0.N, win0_0.index t = ![0, 0, 0] :=
  (by decide +kernel : ∀ t : Fin grid0.N, win0_0.index t = ![0, 0, 0])
/-- The one block of the scales of the left operand begins at the origin. -/
theorem e1 : ∀ t : Fin cfg0.N, win0_1.index t = ![0, 0, 0] :=
  (by decide +kernel : ∀ t : Fin grid0.N, win0_1.index t = ![0, 0, 0])
/-- The one block of the codes of the right operand begins at the origin. -/
theorem e2 : ∀ t : Fin cfg0.N, win0_2.index t = ![0, 0, 0] :=
  (by decide +kernel : ∀ t : Fin grid0.N, win0_2.index t = ![0, 0, 0])
/-- The one block of the scales of the right operand begins at the origin. -/
theorem e3 : ∀ t : Fin cfg0.N, win0_3.index t = ![0, 0, 0] :=
  (by decide +kernel : ∀ t : Fin grid0.N, win0_3.index t = ![0, 0, 0])
/-- The one block of the mask begins at the origin. -/
theorem e4 : ∀ t : Fin cfg0.N, win0_4.index t = ![0, 0] :=
  (by decide +kernel : ∀ t : Fin grid0.N, win0_4.index t = ![0, 0])
/-- The one block of the old pair representation begins at the origin. -/
theorem e5 : ∀ t : Fin cfg0.N, win0_5.index t = ![0, 0, 0] :=
  (by decide +kernel : ∀ t : Fin grid0.N, win0_5.index t = ![0, 0, 0])
/-- The one block of the codes of the projection begins at the origin. -/
theorem e6 : ∀ t : Fin cfg0.N, win0_6.index t = ![0, 0] :=
  (by decide +kernel : ∀ t : Fin grid0.N, win0_6.index t = ![0, 0])
/-- The one block of the scales of the projection begins at the origin. -/
theorem e7 : ∀ t : Fin cfg0.N, win0_7.index t = ![0] :=
  (by decide +kernel : ∀ t : Fin grid0.N, win0_7.index t = ![0])
/-- The one block of the bias of the projection begins at the origin. -/
theorem e8 : ∀ t : Fin cfg0.N, win0_8.index t = ![0] :=
  (by decide +kernel : ∀ t : Fin grid0.N, win0_8.index t = ![0])
/-- The one block of the gain of the layer norm begins at the origin. -/
theorem e9 : ∀ t : Fin cfg0.N, win0_9.index t = ![0] :=
  (by decide +kernel : ∀ t : Fin grid0.N, win0_9.index t = ![0])
/-- The one block of the bias of the layer norm begins at the origin. -/
theorem e10 : ∀ t : Fin cfg0.N, win0_10.index t = ![0] :=
  (by decide +kernel : ∀ t : Fin grid0.N, win0_10.index t = ![0])
/-- The one block of the projection to the logits begins at the origin. -/
theorem e11 : ∀ t : Fin cfg0.N, win0_11.index t = ![0, 0] :=
  (by decide +kernel : ∀ t : Fin grid0.N, win0_11.index t = ![0, 0])
/-- The one block of the updated pairs begins at the origin. -/
theorem e12 : ∀ t : Fin cfg0.N, win0_12.index t = ![0, 0, 0] :=
  (by decide +kernel : ∀ t : Fin grid0.N, win0_12.index t = ![0, 0, 0])
/-- The one block of the logits begins at the origin. -/
theorem e13 : ∀ t : Fin cfg0.N, win0_13.index t = ![0, 0, 0] :=
  (by decide +kernel : ∀ t : Fin grid0.N, win0_13.index t = ![0, 0, 0])
/-- The one block of the codes begins at the origin. -/
theorem e14 : ∀ t : Fin cfg0.N, win0_14.index t = ![0, 0, 0] :=
  (by decide +kernel : ∀ t : Fin grid0.N, win0_14.index t = ![0, 0, 0])
/-- The one block of the scales begins at the origin. -/
theorem e15 : ∀ t : Fin cfg0.N, win0_15.index t = ![0, 0] :=
  (by decide +kernel : ∀ t : Fin grid0.N, win0_15.index t = ![0, 0])

/-- The body's block of the codes of the left operand is the whole argument. -/
theorem ib0 : iblk m c 0 t = (m ((c : Thread nD τ).loc main_arg0) : S1536x384x32.Idx → Elt Ideal .i8) := by
  funext y
  blk_simp [iblk]
  exact congrArg (m ((c : Thread nD τ).loc main_arg0)) (funext fun a => Fin.ext (by fin_cases a <;> blk_simp [e0]))

/-- The body's block of the scales of the left operand is the whole argument. -/
theorem ib1 : iblk m c 1 t = (m ((c : Thread nD τ).loc main_arg1) : S12x384x32.Idx → Elt Ideal .f32) := by
  funext y
  blk_simp [iblk]
  exact congrArg (m ((c : Thread nD τ).loc main_arg1)) (funext fun a => Fin.ext (by fin_cases a <;> blk_simp [e1]))

/-- The body's block of the codes of the right operand is the whole argument. -/
theorem ib2 : iblk m c 2 t = (m ((c : Thread nD τ).loc main_arg2) : S1536x384x32.Idx → Elt Ideal .i8) := by
  funext y
  blk_simp [iblk]
  exact congrArg (m ((c : Thread nD τ).loc main_arg2)) (funext fun a => Fin.ext (by fin_cases a <;> blk_simp [e2]))

/-- The body's block of the scales of the right operand is the whole argument. -/
theorem ib3 : iblk m c 3 t = (m ((c : Thread nD τ).loc main_arg3) : S12x384x32.Idx → Elt Ideal .f32) := by
  funext y
  blk_simp [iblk]
  exact congrArg (m ((c : Thread nD τ).loc main_arg3)) (funext fun a => Fin.ext (by fin_cases a <;> blk_simp [e3]))

/-- The body's block of the mask is the whole argument. -/
theorem ib4 : iblk m c 4 t = (m ((c : Thread nD τ).loc main_arg4) : S1536x384.Idx → Elt Ideal .f32) := by
  funext y
  blk_simp [iblk]
  exact congrArg (m ((c : Thread nD τ).loc main_arg4)) (funext fun a => Fin.ext (by fin_cases a <;> blk_simp [e4]))

/-- The body's block of the old pair representation is the whole argument. -/
theorem ib5 : iblk m c 5 t = (m ((c : Thread nD τ).loc main_arg5) : S384x384x128.Idx → Elt Ideal .bf16) := by
  funext y
  blk_simp [iblk]
  exact congrArg (m ((c : Thread nD τ).loc main_arg5)) (funext fun a => Fin.ext (by fin_cases a <;> blk_simp [e5]))

/-- The body's block of the codes of the projection is the whole argument. -/
theorem ib6 : iblk m c 6 t = (m ((c : Thread nD τ).loc main_arg6) : S1024x128.Idx → Elt Ideal .fp8e4m3) := by
  funext y
  blk_simp [iblk]
  exact congrArg (m ((c : Thread nD τ).loc main_arg6)) (funext fun a => Fin.ext (by fin_cases a <;> blk_simp [e6]))

/-- The body's block of the scales of the projection is the whole argument. -/
theorem ib7 : iblk m c 7 t = (m ((c : Thread nD τ).loc main_arg7) : S128.Idx → Elt Ideal .f32) := by
  funext y
  blk_simp [iblk]
  exact congrArg (m ((c : Thread nD τ).loc main_arg7)) (funext fun a => Fin.ext (by fin_cases a <;> blk_simp [e7]))

/-- The body's block of the bias of the projection is the whole argument. -/
theorem ib8 : iblk m c 8 t = (m ((c : Thread nD τ).loc main_arg8) : S128.Idx → Elt Ideal .f32) := by
  funext y
  blk_simp [iblk]
  exact congrArg (m ((c : Thread nD τ).loc main_arg8)) (funext fun a => Fin.ext (by fin_cases a <;> blk_simp [e8]))

/-- The body's block of the gain of the layer norm is the whole argument. -/
theorem ib9 : iblk m c 9 t = (m ((c : Thread nD τ).loc main_arg9) : S128.Idx → Elt Ideal .f32) := by
  funext y
  blk_simp [iblk]
  exact congrArg (m ((c : Thread nD τ).loc main_arg9)) (funext fun a => Fin.ext (by fin_cases a <;> blk_simp [e9]))

/-- The body's block of the bias of the layer norm is the whole argument. -/
theorem ib10 : iblk m c 10 t = (m ((c : Thread nD τ).loc main_arg10) : S128.Idx → Elt Ideal .f32) := by
  funext y
  blk_simp [iblk]
  exact congrArg (m ((c : Thread nD τ).loc main_arg10)) (funext fun a => Fin.ext (by fin_cases a <;> blk_simp [e10]))

/-- The body's block of the projection to the logits is the whole argument. -/
theorem ib11 : iblk m c 11 t = (m ((c : Thread nD τ).loc main_arg11) : S128x8.Idx → Elt Ideal .f32) := by
  funext y
  blk_simp [iblk]
  exact congrArg (m ((c : Thread nD τ).loc main_arg11)) (funext fun a => Fin.ext (by fin_cases a <;> blk_simp [e11]))

/-- The array of updated pairs after the run. -/
def res0 : S384x384x128.Idx → EReal := fun y => zG (m ((c : Thread nD τ).loc main_arg0)) (m ((c : Thread nD τ).loc main_arg1)) (m ((c : Thread nD τ).loc main_arg2)) (m ((c : Thread nD τ).loc main_arg3)) (counts (m ((c : Thread nD τ).loc main_arg4))) (m ((c : Thread nD τ).loc main_arg5)) (m ((c : Thread nD τ).loc main_arg6)) (m ((c : Thread nD τ).loc main_arg7)) (m ((c : Thread nD τ).loc main_arg8)) (y 0) (y 1) (y 2)
/-- The logits after the run. -/
def res1 : S8x384x384.Idx → EReal := fun y =>
  pbR (zG (m ((c : Thread nD τ).loc main_arg0)) (m ((c : Thread nD τ).loc main_arg1)) (m ((c : Thread nD τ).loc main_arg2)) (m ((c : Thread nD τ).loc main_arg3)) (counts (m ((c : Thread nD τ).loc main_arg4))) (m ((c : Thread nD τ).loc main_arg5)) (m ((c : Thread nD τ).loc main_arg6)) (m ((c : Thread nD τ).loc main_arg7)) (m ((c : Thread nD τ).loc main_arg8)) (y 1) (y 2)) (fun x => (m ((c : Thread nD τ).loc main_arg9) : S128.Idx → EReal) (ix1 x)) (fun x => (m ((c : Thread nD τ).loc main_arg10) : S128.Idx → EReal) (ix1 x))
    (fun x => (m ((c : Thread nD τ).loc main_arg11) : S128x8.Idx → EReal) (ix2 x (y 0)))
/-- The codes after the run. -/
def res2 : S384x384x1024.Idx → EReal := fun y => codeG (m ((c : Thread nD τ).loc main_arg0)) (m ((c : Thread nD τ).loc main_arg1)) (m ((c : Thread nD τ).loc main_arg2)) (m ((c : Thread nD τ).loc main_arg3)) (counts (m ((c : Thread nD τ).loc main_arg4))) (y 0) (y 1) (y 2)
/-- The scales after the run. -/
def res3 : S384x384.Idx → EReal := fun y => scaleG (m ((c : Thread nD τ).loc main_arg0)) (m ((c : Thread nD τ).loc main_arg1)) (m ((c : Thread nD τ).loc main_arg2)) (m ((c : Thread nD τ).loc main_arg3)) (counts (m ((c : Thread nD τ).loc main_arg4))) (y 0) (y 1)

/-- What the reference's run leaves as the updated pairs: the function of the arguments above. -/
theorem final12 : (dats m 0 c).arrAt 12 cfg0.N = res0 m c := by
  refine (dats m 0 c).arrAt_eq_of_covers 12 _ (by decide +kernel) fun t hf y => ?_
  blk_simp
  rw [after0_12, ib0, ib1, ib2, ib3, ib4, ib5, ib6, ib7, ib8, ib9, ib10, ib11]
  obtain ⟨i, j, e, rfl⟩ : ∃ (i j : Fin 384) (e : Fin 128), y = ix3 i j e := ⟨y 0, y 1, y 2, eq_ix3 y⟩
  rw [o12]
  have hh : ((win0_12.blk t).view.emb (ix3 i j e : S384x384x128.Idx) : S384x384x128.Idx) = ix3 i j e := by
    refine eq3 _ ?_ ?_ ?_ <;> blk_simp [e12] <;> simp
  exact (congrArg (res0 m c) hh).symm

/-- What the reference's run leaves as the logits: the function of the arguments above. -/
theorem final13 : (dats m 0 c).arrAt 13 cfg0.N = res1 m c := by
  refine (dats m 0 c).arrAt_eq_of_covers 13 _ (by decide +kernel) fun t hf y => ?_
  blk_simp
  rw [after0_13, ib0, ib1, ib2, ib3, ib4, ib5, ib6, ib7, ib8, ib9, ib10, ib11]
  obtain ⟨h, i, j, rfl⟩ : ∃ (h : Fin 8) (i j : Fin 384), y = ix3 h i j := ⟨y 0, y 1, y 2, eq_ix3 y⟩
  rw [o13]
  have hh : ((win0_13.blk t).view.emb (ix3 h i j : S8x384x384.Idx) : S8x384x384.Idx) = ix3 h i j := by
    refine eq3 _ ?_ ?_ ?_ <;> blk_simp [e13] <;> simp
  exact (congrArg (res1 m c) hh).symm

/-- What the reference's run leaves as the codes: the function of the arguments above. -/
theorem final14 : (dats m 0 c).arrAt 14 cfg0.N = res2 m c := by
  refine (dats m 0 c).arrAt_eq_of_covers 14 _ (by decide +kernel) fun t hf y => ?_
  blk_simp
  rw [after0_14, ib0, ib1, ib2, ib3, ib4, ib5, ib6, ib7, ib8, ib9, ib10, ib11]
  obtain ⟨i, j, n, rfl⟩ : ∃ (i j : Fin 384) (n : Fin 1024), y = ix3 i j n := ⟨y 0, y 1, y 2, eq_ix3 y⟩
  rw [o14]
  have hh : ((win0_14.blk t).view.emb (ix3 i j n : S384x384x1024.Idx) : S384x384x1024.Idx) = ix3 i j n := by
    refine eq3 _ ?_ ?_ ?_ <;> blk_simp [e14] <;> simp
  exact (congrArg (res2 m c) hh).symm

/-- What the reference's run leaves as the scales: the function of the arguments above. -/
theorem final15 : (dats m 0 c).arrAt 15 cfg0.N = res3 m c := by
  refine (dats m 0 c).arrAt_eq_of_covers 15 _ (by decide +kernel) fun t hf y => ?_
  blk_simp
  rw [after0_15, ib0, ib1, ib2, ib3, ib4, ib5, ib6, ib7, ib8, ib9, ib10, ib11]
  obtain ⟨i, j, rfl⟩ : ∃ (i j : Fin 384), y = ix2 i j := ⟨y 0, y 1, eq_ix2 y⟩
  rw [o15]
  have hh : ((win0_15.blk t).view.emb (ix2 i j : S384x384.Idx) : S384x384.Idx) = ix2 i j := by
    refine eq2 _ ?_ ?_ <;> blk_simp [e15] <;> simp
  exact (congrArg (res3 m c) hh).symm

end Final

end Cert.ReferenceIdeal.Val
-- ==== Proof.Alg.lean ====
module

public import proofs.«01_k».proof.Proof.Ref

@[expose] public section

noncomputable section

/-! The two programs' scalars agree: the scale taken before or after the division by a positive count, the code by one
    reciprocal or by two divisions, the layer norm by a reciprocal square root or by a division. -/

namespace Cert.Alg
open Idealize.ShloMosaic
open Cert.KernelIdeal.Val (amaxW scaleS clipS meanS varS pbS abs_nonneg')
open Cert.ReferenceIdeal.Val (scaleR pbR)
open scoped BigOperators

/-- The constant 448. -/
theorem ofBits_448 : Ideal.ofBits .f32 0x43E00000#32 = ((448 : ℝ) : EReal) := by
  simp [Ideal.ofBits, Ideal.ieee, -EReal.coe_mul]; norm_num

/-- The constant 128. -/
theorem ofBits_128 : Ideal.ofBits .f32 0x43000000#32 = ((128 : ℝ) : EReal) := by
  simp [Ideal.ofBits, Ideal.ieee, -EReal.coe_mul]; norm_num

/-- The constant added to the variance is a positive real. -/
theorem ofBits_eps : ∃ r : ℝ, 0 < r ∧ Ideal.ofBits .f32 0x3727C5AC#32 = (r : EReal) := by
  refine ⟨_, ?_, by simp [Ideal.ofBits, Ideal.ieee, -EReal.coe_mul]; rfl⟩
  norm_num

/-- Division by a positive number is multiplication by its inverse. -/
theorem div_pos {x y : EReal} (h : 0 < y) : Ideal.div x y = x * y⁻¹ := by
  unfold Ideal.div
  rw [if_neg h.ne']

/-- A quotient of a number that is not negative by a positive one is not negative. -/
theorem div_nonneg {x y : EReal} (hx : 0 ≤ x) (h : 0 < y) : 0 ≤ Ideal.div x y := by
  rw [div_pos h]
  exact mul_nonneg hx (EReal.inv_nonneg_of_nonneg h.le)

/-- The largest absolute value is not negative. -/
theorem amaxW_nonneg (f : Fin 1024 → EReal) : 0 ≤ amaxW f :=
  (abs_nonneg' (f 0)).trans (Finset.le_sup (f := fun n => max (f n) (-(f n))) (Finset.mem_univ 0))

/-- The largest absolute value of the means is that of the sums over the count. -/
theorem amax_div (f : Fin 1024 → EReal) {c : EReal} (h : 0 < c) : Ideal.div (amaxW f) c = amaxW fun n => Ideal.div (f n) c := by
  have hc : 0 ≤ c⁻¹ := EReal.inv_nonneg_of_nonneg h.le
  have mono : Monotone fun x : EReal => x * c⁻¹ := fun x y hxy => mul_le_mul_of_nonneg_right hxy hc
  have habs : ∀ x : EReal, max (x * c⁻¹) (-(x * c⁻¹)) = max x (-x) * c⁻¹ := fun x => by
    rw [← EReal.neg_mul]
    exact (mono.map_max (a := x) (b := -x)).symm
  unfold amaxW
  simp only [div_pos h, habs]
  refine le_antisymm ?_ (Finset.sup_le fun n _ => mono (Finset.le_sup (f := fun n => max (f n) (-(f n))) (Finset.mem_univ n)))
  obtain ⟨n, hn, e⟩ := Finset.exists_mem_eq_sup Finset.univ ⟨0, Finset.mem_univ 0⟩ fun n : Fin 1024 => max (f n) (-(f n))
  rw [e]
  exact Finset.le_sup (f := fun n => max (f n) (-(f n)) * c⁻¹) hn

/-- The scale from the sums and the count is the scale from the means. -/
theorem scale_eq (f : Fin 1024 → EReal) {c : EReal} (h : 0 < c) : scaleS (amaxW f) c = scaleR (amaxW fun n => Ideal.div (f n) c) := by
  unfold scaleS scaleR
  rw [amax_div f h]

/-- A scale is positive. -/
theorem scaleR_pos {x : EReal} (h : 0 ≤ x) : 0 < scaleR x := by
  unfold scaleR
  split
  · exact zero_lt_one
  · rename_i hx
    have h0 : 0 < x := lt_of_le_of_ne h (Ne.symm hx)
    rw [ofBits_448, div_pos (by exact_mod_cast (by norm_num : (0 : ℝ) < 448))]
    refine EReal.mul_pos h0 ?_
    rw [← EReal.coe_inv]
    exact_mod_cast (by norm_num : (0 : ℝ) < 448⁻¹)

/-- One reciprocal of scale times count, or a division by the count and a division by the scale. -/
theorem code_eq (x : EReal) {s c : EReal} (hs : 0 < s) (hc : 0 < c) : x * Ideal.div 1 (s * c) = Ideal.div (Ideal.div x c) s := by
  rw [div_pos (EReal.mul_pos hs hc), div_pos hc, div_pos hs, EReal.mul_inv, one_mul, mul_assoc, mul_comm s⁻¹]

/-- A square is not negative. -/
theorem sq_nonneg (x : EReal) : 0 ≤ x * x := by
  rcases le_total 0 x with h | h
  · exact mul_nonneg h h
  · rw [← neg_mul_neg x x]
    exact mul_nonneg (EReal.neg_nonneg.2 h) (EReal.neg_nonneg.2 h)

/-- The variance is not negative. -/
theorem var_nonneg (z : Fin 128 → EReal) : 0 ≤ varS z := by
  unfold varS
  generalize meanS z = μ
  unfold meanS
  rw [ofBits_128]
  exact div_nonneg (Finset.sum_nonneg fun x _ => sq_nonneg _) (by exact_mod_cast (by norm_num : (0 : ℝ) < 128))

/-- Multiplication by the reciprocal square root is division by the square root, of a positive number. -/
theorem mul_rsqrt (x : EReal) {v : EReal} (h : 0 < v) : x * Ideal.rsqrt v = Ideal.div x (Ideal.sqrt v) := by
  induction v with
  | bot => exact absurd h (by simp)
  | top =>
    rw [Ideal.rsqrt_top, Ideal.sqrt_top, div_pos (by simp), EReal.inv_top]
  | coe r =>
    have hr : 0 < r := by exact_mod_cast h
    rw [Ideal.rsqrt_coe, Ideal.sqrt_coe, if_neg hr.le.not_gt, if_neg hr.ne', if_neg hr.le.not_gt,
      div_pos (by exact_mod_cast Real.sqrt_pos.2 hr), EReal.coe_inv]

/-- The logits agree. -/
theorem pb_eq (z g be w : Fin 128 → EReal) : pbS z g be w = pbR z g be w := by
  obtain ⟨ε, hε, e⟩ := ofBits_eps
  have h : 0 < varS z + Ideal.ofBits .f32 0x3727C5AC#32 := by
    rw [e]
    exact lt_of_lt_of_le (by exact_mod_cast hε) (le_add_of_nonneg_left (var_nonneg z))
  unfold pbS pbR
  simp only [mul_rsqrt _ h]

end Cert.Alg
-- ==== Proof.Equal.lean ====
module

public import proofs.«01_k».proof.Defs
public import proofs.«01_k».proof.Proof.Alg

@[expose] public section

noncomputable section

/-! The two programs' results are the same functions of the arguments, where every count is positive. -/

namespace Cert.Equal
open Idealize.ShloMosaic Idealize.SL.Sem
open Cert.KernelIdeal.Val (counts amaxW prodW scaleW codeW zW scaleS clipS)
open Cert.ReferenceIdeal.Val (scaleR meanP scaleG codeG)
open Cert.Alg

/-- The side conditions of the precondition's operations. -/
instance preFacts : Cert.Pre_cnt_positive.Facts := ⟨by decide, by decide⟩

section Pointwise
variable (x0 : Cert.KernelIdeal.S1536x384x32.Idx → Elt Ideal .i8) (x1 : Cert.KernelIdeal.S12x384x32.Idx → Elt Ideal .f32)
  (x2 : Cert.KernelIdeal.S1536x384x32.Idx → Elt Ideal .i8) (x3 : Cert.KernelIdeal.S12x384x32.Idx → Elt Ideal .f32)
  (x4 : Cert.KernelIdeal.S384x384.Idx → Elt Ideal .f32) (I J : Fin 384)

/-- The two scales agree. -/
theorem scale (h : 0 < x4 (ix2 I J)) : scaleW x0 x1 x2 x3 x4 I J = scaleG x0 x1 x2 x3 x4 I J :=
  scale_eq _ h

/-- The reference's scale is positive. -/
theorem scale_pos : 0 < scaleG x0 x1 x2 x3 x4 I J := scaleR_pos (amaxW_nonneg _)

/-- The two codes agree. -/
theorem code (h : 0 < x4 (ix2 I J)) (n : Fin 1024) : codeW x0 x1 x2 x3 x4 I J n = codeG x0 x1 x2 x3 x4 I J n := by
  unfold codeW codeG
  rw [scale x0 x1 x2 x3 x4 I J h]
  exact congrArg clipS (code_eq _ (scale_pos x0 x1 x2 x3 x4 I J) h)

end Pointwise

section Run
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- A comparison that answers one says that its left side is the larger. -/
theorem pos_of_cmp (x : Cert.Pre_cnt_positive.S384x384.Idx → EReal) (i : Cert.Pre_cnt_positive.S384x384.Idx)
    (h : cmpf (F := Ideal) (φ := .f32) .ogt x (broadcastInDim Cert.Pre_cnt_positive.S384x384 ![] Cert.Pre_cnt_positive.Facts.bcast_S_S384x384
      (constant (F := Ideal) Cert.Pre_cnt_positive.S_ .f32 0x00000000#32)) i = 1#1) : 0 < x i := by
  pointwise at h
  rcases lt_or_ge 0 (x i) with hx | hx
  · exact hx
  · rw [decide_eq_false (not_lt.2 hx)] at h
    exact absurd h (by decide)

/-- The counts as the precondition states them. -/
theorem count_eq (k : Cert.Pre_cnt_positive.S1536x384.Idx → EReal) (I J : Fin 384) :
    addf (F := Ideal) (φ := .f32) (Host.dotGeneral (F := Ideal) (φ₁ := .f32) (φ₂ := .f32) Cert.Pre_cnt_positive.dot_S1536x384_S1536x384_S384x384_0_0_1_1_n_n (some .fp32) k k)
      (broadcastInDim Cert.Pre_cnt_positive.S384x384 ![] Cert.Pre_cnt_positive.Facts.bcast_S_S384x384
        (constant (F := Ideal) Cert.Pre_cnt_positive.S_ .f32 0x3A83126F#32)) (ix2 I J) = counts k (ix2 I J) := by
  show _ = (∑ s : Fin 1536, k (ix2 s I) * k (ix2 s J)) + Ideal.ofBits .f32 0x3A83126F#32
  pointwise [Cert.Pre_cnt_positive.dot_S1536x384_S1536x384_S384x384_0_0_1_1_n_n]

/-- The precondition, read at one pair of residues. -/
theorem pos_of_pre (h : Cert.Pre_KernelIdeal_cnt_positive m) (c : Dev Cert.KernelIdeal.nD) (I J : Fin 384) :
    0 < Cert.KernelIdeal.Val.g4 m c (ix2 I J) :=
  (pos_of_cmp _ _ (congrFun (h c) (ix2 I J))).trans_eq (count_eq _ I J)

/-- The two runs start from the same arguments. -/
def Same (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
    ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
    ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
    ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
    ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
    ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
    ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
    ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
    ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
    ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
    ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
    ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)

variable {m m'} {c : Dev Cert.KernelIdeal.nD}

/-- The new pair representations agree. -/
theorem z (h : Cert.Pre_KernelIdeal_cnt_positive m) (I J : Fin 384) (k : Fin 128) :
    Cert.KernelIdeal.Val.zG m c I J k = Cert.ReferenceIdeal.Val.zG (Cert.KernelIdeal.Val.g0 m c) (Cert.KernelIdeal.Val.g1 m c) (Cert.KernelIdeal.Val.g2 m c) (Cert.KernelIdeal.Val.g3 m c) (Cert.KernelIdeal.Val.g4 m c) (Cert.KernelIdeal.Val.g5 m c) (Cert.KernelIdeal.Val.g6 m c) (Cert.KernelIdeal.Val.g7 m c) (Cert.KernelIdeal.Val.g8 m c) I J k := by
  unfold Cert.KernelIdeal.Val.zG Cert.ReferenceIdeal.Val.zG
  have hc := pos_of_pre m h c I J
  rw [scale _ _ _ _ _ I J hc, funext (code _ _ _ _ _ I J hc)]

/-- The two updated pair representations agree. -/
theorem res0 (h : Cert.Pre_KernelIdeal_cnt_positive m) (e : Same m m' c) : Cert.ReferenceIdeal.Val.res0 m' c = Cert.KernelIdeal.Val.res0 m c := by
  obtain ⟨E0, E1, E2, E3, E4, E5, E6, E7, E8, E9, E10, E11⟩ := e
  unfold Cert.ReferenceIdeal.Val.res0 Cert.KernelIdeal.Val.res0
  simp only [E0, E1, E2, E3, E4, E5, E6, E7, E8, E9, E10, E11]
  exact funext fun y => (z h (y 0) (y 1) (y 2)).symm

/-- The two pair-bias logits agree. -/
theorem res1 (h : Cert.Pre_KernelIdeal_cnt_positive m) (e : Same m m' c) : Cert.ReferenceIdeal.Val.res1 m' c = Cert.KernelIdeal.Val.res1 m c := by
  obtain ⟨E0, E1, E2, E3, E4, E5, E6, E7, E8, E9, E10, E11⟩ := e
  unfold Cert.ReferenceIdeal.Val.res1 Cert.KernelIdeal.Val.res1
  simp only [E0, E1, E2, E3, E4, E5, E6, E7, E8, E9, E10, E11]
  refine funext fun y => ?_
  rw [pb_eq, funext (z h (y 1) (y 2))]

/-- The two arrays of codes agree. -/
theorem res2 (h : Cert.Pre_KernelIdeal_cnt_positive m) (e : Same m m' c) : Cert.ReferenceIdeal.Val.res2 m' c = Cert.KernelIdeal.Val.res2 m c := by
  obtain ⟨E0, E1, E2, E3, E4, E5, E6, E7, E8, E9, E10, E11⟩ := e
  unfold Cert.ReferenceIdeal.Val.res2 Cert.KernelIdeal.Val.res2
  simp only [E0, E1, E2, E3, E4, E5, E6, E7, E8, E9, E10, E11]
  exact funext fun y => (code _ _ _ _ _ (y 0) (y 1) (pos_of_pre m h c _ _) (y 2)).symm

/-- The two arrays of scales agree. -/
theorem res3 (h : Cert.Pre_KernelIdeal_cnt_positive m) (e : Same m m' c) : Cert.ReferenceIdeal.Val.res3 m' c = Cert.KernelIdeal.Val.res3 m c := by
  obtain ⟨E0, E1, E2, E3, E4, E5, E6, E7, E8, E9, E10, E11⟩ := e
  unfold Cert.ReferenceIdeal.Val.res3 Cert.KernelIdeal.Val.res3
  simp only [E0, E1, E2, E3, E4, E5, E6, E7, E8, E9, E10, E11]
  exact funext fun y => (scale _ _ _ _ _ (y 0) (y 1) (pos_of_pre m h c _ _)).symm

end Run
end Cert.Equal
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Value
public import proofs.«01_k».proof.Proof.Equal
public import Idealize.ShloMosaic.Adequacy
public import Idealize.ShloMosaic.Init

@[expose] public section

noncomputable section

namespace Cert.Proof

open Idealize.ShloMosaic Idealize.SL.Sem

/-- From equal arguments with positive counts the two programs end with equal results, and leave their arguments. -/
theorem algebraic : Cert.algebraic_KernelIdeal_ReferenceIdeal_pre_cnt_positive := by
  intro m g m' g' h e
  refine ⟨fun c => Cert.KernelIdeal.Val.res0 m c, fun c => Cert.KernelIdeal.Val.res1 m c, fun c => Cert.KernelIdeal.Val.res2 m c,
    fun c => Cert.KernelIdeal.Val.res3 m c, ?_, ?_⟩
  · refine θ_run_mono (Cert.KernelIdeal.Val.run_blocks m g) fun r hr c => ?_
    obtain ⟨h0, h1, h2, h3, ha⟩ := hr c
    exact ⟨h0.trans (Cert.KernelIdeal.Val.final12 m g c), h1.trans (Cert.KernelIdeal.Val.final13 m g c),
      h2.trans (Cert.KernelIdeal.Val.final14 m g c), h3.trans (Cert.KernelIdeal.Val.final15 m g c), ha⟩
  · refine θ_run_mono (Cert.ReferenceIdeal.Value.run_blocks m' g') fun r hr c => ?_
    obtain ⟨h0, h1, h2, h3, ha⟩ := hr c
    have s : Cert.Equal.Same m m' c := e c
    exact ⟨(h0.trans (Cert.ReferenceIdeal.Val.final12 m' c)).trans (Cert.Equal.res0 h s),
      (h1.trans (Cert.ReferenceIdeal.Val.final13 m' c)).trans (Cert.Equal.res1 h s),
      (h2.trans (Cert.ReferenceIdeal.Val.final14 m' c)).trans (Cert.Equal.res2 h s),
      (h3.trans (Cert.ReferenceIdeal.Val.final15 m' c)).trans (Cert.Equal.res3 h s), ha⟩

/-- Every claim of this certificate. -/
theorem claim : Cert.Claim := ⟨Cert.Kernel.Gen.facts, Cert.KernelIdeal.Gen.facts, Cert.ReferenceIdeal.Gen.facts, Cert.Equal.preFacts,
  fun m ρ _ => Cert.Kernel.Gen.frame m ρ, fun m ρ _ => Cert.KernelIdeal.Gen.frame m ρ, fun m ρ _ => Cert.KernelIdeal.Gen.frame m ρ,
  fun m ρ _ => Cert.ReferenceIdeal.Gen.frame m ρ, fun m ρ _ => Cert.ReferenceIdeal.Gen.frame m ρ, trivial, algebraic⟩

end Cert.Proof

end
